-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_three_nearest [hPre_three_nearest : Cert.Pre_three_nearest.Facts] (m : (ℓ : Loc Cert.KernelIdeal.nD Cert.KernelIdeal.τ Cert.KernelIdeal.sig) → Buf (Elt Ideal) ℓ) : Prop :=
  ∀ c : Dev Cert.KernelIdeal.nD,
    (Cert.Pre_three_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_three_nearest [hPre_three_nearest : Cert.Pre_three_nearest.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_three_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_three_nearest [hKernelIdeal : Cert.KernelIdeal.Facts] [hPre_three_nearest : Cert.Pre_three_nearest.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_three_nearest m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_three_nearest [hReferenceIdeal : Cert.ReferenceIdeal.Facts] [hPre_three_nearest : Cert.Pre_three_nearest.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_three_nearest m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_three_nearest [hKernelIdeal : Cert.KernelIdeal.Facts] [hReferenceIdeal : Cert.ReferenceIdeal.Facts] [hPre_three_nearest : Cert.Pre_three_nearest.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_three_nearest m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_three_nearest : Cert.Pre_three_nearest.Facts),
    quiescent_Kernel (hKernel := hKernel)
    ∧ quiescent_KernelIdeal (hKernelIdeal := hKernelIdeal)
    ∧ quiescent_KernelIdeal_pre_three_nearest (hKernelIdeal := hKernelIdeal) (hPre_three_nearest := hPre_three_nearest)
    ∧ quiescent_ReferenceIdeal (hReferenceIdeal := hReferenceIdeal)
    ∧ quiescent_ReferenceIdeal_pre_three_nearest (hReferenceIdeal := hReferenceIdeal) (hPre_three_nearest := hPre_three_nearest)
    ∧ preserves_Kernel_KernelIdeal
    ∧ algebraic_KernelIdeal_ReferenceIdeal_pre_three_nearest (hKernelIdeal := hKernelIdeal) (hReferenceIdeal := hReferenceIdeal) (hPre_three_nearest := hPre_three_nearest)
-- ==== Pre_three_nearest.lean ====
abbrev S8x3x4096 : Shape := ⟨3, ![8, 3, 4096]⟩
abbrev S8x3x2048 : Shape := ⟨3, ![8, 3, 2048]⟩
abbrev S8x256x4096 : Shape := ⟨3, ![8, 256, 4096]⟩
abbrev S8x256x2048 : Shape := ⟨3, ![8, 256, 2048]⟩
abbrev S8x4096x3 : Shape := ⟨3, ![8, 4096, 3]⟩
abbrev S8x2048x3 : Shape := ⟨3, ![8, 2048, 3]⟩
abbrev S_ : Shape := ⟨0, ![]⟩
abbrev S8x4096 : Shape := ⟨2, ![8, 4096]⟩
abbrev S8x4096x1 : Shape := ⟨3, ![8, 4096, 1]⟩
abbrev S8x4096x2048 : Shape := ⟨3, ![8, 4096, 2048]⟩
abbrev S8x2048 : Shape := ⟨2, ![8, 2048]⟩
abbrev S8x1x2048 : Shape := ⟨3, ![8, 1, 2048]⟩
abbrev S8x4096x4 : Shape := ⟨3, ![8, 4096, 4]⟩

class Facts : Prop where
  transposes_S8x3x4096_S8x4096x3_0_2_1 : S8x3x4096.Transposes [0, 2, 1] S8x4096x3
  transposes_S8x3x2048_S8x2048x3_0_2_1 : S8x3x2048.Transposes [0, 2, 1] S8x2048x3
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S_S8x4096x2048 : S_.BroadcastsInDim S8x4096x2048 (![] : Fin 0 → Fin S8x4096x2048.rank)
  bcast_S8x4096x1_S8x4096x2048_0_1_2 : S8x4096x1.BroadcastsInDim S8x4096x2048 (![0, 1, 2] : Fin 3 → Fin S8x4096x2048.rank)
  reducesTo_S8x2048x3_S8x2048_d2 : S8x2048x3.ReducesTo [2] S8x2048
  bcast_S8x2048_S8x1x2048_0_2 : S8x2048.BroadcastsInDim S8x1x2048 (![0, 2] : Fin 2 → Fin S8x1x2048.rank)
  bcast_S8x1x2048_S8x4096x2048_0_1_2 : S8x1x2048.BroadcastsInDim S8x4096x2048 (![0, 1, 2] : Fin 3 → Fin S8x4096x2048.rank)
  sliceFits_S8x4096x2048_S8x4096x4 : S8x4096x2048.Slices (fun _ => 0) S8x4096x4
  slices_S8x4096x4_S8x4096x1_0_0_2 : S8x4096x4.Slices ![0, 0, 2] S8x4096x1
  shapeCasts_S8x4096x1_S8x4096 : S8x4096x1.ShapeCasts S8x4096
  slices_S8x4096x4_S8x4096x1_0_0_3 : S8x4096x4.Slices ![0, 0, 3] S8x4096x1
  reducesTo_S8x4096_S_d0_1 : S8x4096.ReducesTo [0, 1] S_
  bcast_S_S8x3x4096 : S_.BroadcastsInDim S8x3x4096 (![] : Fin 0 → Fin S8x3x4096.rank)
  reducesTo_S8x3x4096_S_d0_1_2 : S8x3x4096.ReducesTo [0, 1, 2] S_
  bcast_S_S8x3x2048 : S_.BroadcastsInDim S8x3x2048 (![] : Fin 0 → Fin S8x3x2048.rank)
  reducesTo_S8x3x2048_S_d0_1_2 : S8x3x2048.ReducesTo [0, 1, 2] S_
  dot_S8x4096x3_S8x2048x3_S8x4096x2048_2_2_1_1_0_0_wf : DotDims.WF S8x4096x3 S8x2048x3 S8x4096x2048 [2] [2] [1] [1] [0] [0]

variable [Facts]

def dot_S8x4096x3_S8x2048x3_S8x4096x2048_2_2_1_1_0_0 : DotDims S8x4096x3 S8x2048x3 S8x4096x2048 where
  lhsContracting := [2]
  rhsContracting := [2]
  lhsNonContracting := [1]
  rhsNonContracting := [1]
  lhsBatch := [0]
  rhsBatch := [0]
  wf := dot_S8x4096x3_S8x2048x3_S8x4096x2048_2_2_1_1_0_0_wf
def fn_part1 {F : FTy → Type} [FloatOps F] (main_arg0 : FVec F S8x3x4096 .f32) (main_arg1 : FVec F S8x3x2048 .f32) (main_v17 : FVec F S8x4096 .f32) (main_v18 : FVec F S8x4096x1 .f32) : IVec S_ 1 :=
  let main_v19 : FVec F S8x4096 .f32 := shapeCast S8x4096 main_v18 shapeCasts_S8x4096x1_S8x4096
  let main_v20 : IVec S8x4096 1 := cmpf .ogt main_v17 main_v19
  let main_c : IVec S_ 1 := constantI S_ 1 1#1
  let main_v21 : IVec S_ 1 := (fun x v => Host.reduce IntOp.andi x v reducesTo_S8x4096_S_d0_1 h_S_) main_v20 main_c
  let main_v22 : FVec F S8x3x4096 .f32 := Host.absf main_arg0
  let main_cst_2 : FVec F S_ .f32 := constant S_ .f32 0x7F800000#32
  let main_v23 : FVec F S8x3x4096 .f32 := broadcastInDim S8x3x4096 ![] bcast_S_S8x3x4096 main_cst_2
  let main_v24 : IVec S8x3x4096 1 := cmpf .olt main_v22 main_v23
  let main_c_3 : IVec S_ 1 := constantI S_ 1 1#1
  let main_v25 : IVec S_ 1 := (fun x v => Host.reduce IntOp.andi x v reducesTo_S8x3x4096_S_d0_1_2 h_S_) main_v24 main_c_3
  let main_v26 : FVec F S8x3x2048 .f32 := Host.absf main_arg1
  let main_cst_4 : FVec F S_ .f32 := constant S_ .f32 0x7F800000#32
  let main_v27 : FVec F S8x3x2048 .f32 := broadcastInDim S8x3x2048 ![] bcast_S_S8x3x2048 main_cst_4
  let main_v28 : IVec S8x3x2048 1 := cmpf .olt main_v26 main_v27
  let main_c_5 : IVec S_ 1 := constantI S_ 1 1#1
  let main_v29 : IVec S_ 1 := (fun x v => Host.reduce IntOp.andi x v reducesTo_S8x3x2048_S_d0_1_2 h_S_) main_v28 main_c_5
  let main_v30 : IVec S_ 1 := andi main_v25 main_v29
  let main_v31 : IVec S_ 1 := andi main_v21 main_v30
  main_v31

def fn {F : FTy → Type} [FloatOps F] (main_arg0 : FVec F S8x3x4096 .f32) (main_arg1 : FVec F S8x3x2048 .f32) (main_arg2 : FVec F S8x256x4096 .f32) (main_arg3 : FVec F S8x256x2048 .f32) : IVec S_ 1 :=
  let main_v0 : FVec F S8x4096x3 .f32 := (transpose S8x4096x3 [0, 2, 1] · transposes_S8x3x4096_S8x4096x3_0_2_1) main_arg0
  let main_v1 : FVec F S8x2048x3 .f32 := (transpose S8x2048x3 [0, 2, 1] · transposes_S8x3x2048_S8x2048x3_0_2_1) main_arg1
  let main_v2 : FVec F S8x4096x3 .f32 := mulf main_v0 main_v0
  let main_cst : FVec F S_ .f32 := constant S_ .f32 0x00000000#32
  let main_v3 : FVec F S8x4096 .f32 := (fun x v => Host.reduceAdd x v reducesTo_S8x4096x3_S8x4096_d2 h_S_) main_v2 main_cst
  let main_v4 : FVec F S8x4096x1 .f32 := broadcastInDim S8x4096x1 ![0, 1] bcast_S8x4096_S8x4096x1_0_1 main_v3
  let main_v5 : FVec F S8x4096x2048 .f32 := (fun l r => Host.dotGeneral dot_S8x4096x3_S8x2048x3_S8x4096x2048_2_2_1_1_0_0 none l r) main_v0 main_v1
  let main_cst_0 : FVec F S_ .f32 := constant S_ .f32 0x40000000#32
  let main_v6 : FVec F S8x4096x2048 .f32 := broadcastInDim S8x4096x2048 ![] bcast_S_S8x4096x2048 main_cst_0
  let main_v7 : FVec F S8x4096x2048 .f32 := mulf main_v6 main_v5
  let main_v8 : FVec F S8x4096x2048 .f32 := broadcastInDim S8x4096x2048 ![0, 1, 2] bcast_S8x4096x1_S8x4096x2048_0_1_2 main_v4
  let main_v9 : FVec F S8x4096x2048 .f32 := subf main_v8 main_v7
  let main_v10 : FVec F S8x2048x3 .f32 := mulf main_v1 main_v1
  let main_cst_1 : FVec F S_ .f32 := constant S_ .f32 0x00000000#32
  let main_v11 : FVec F S8x2048 .f32 := (fun x v => Host.reduceAdd x v reducesTo_S8x2048x3_S8x2048_d2 h_S_) main_v10 main_cst_1
  let main_v12 : FVec F S8x1x2048 .f32 := broadcastInDim S8x1x2048 ![0, 2] bcast_S8x2048_S8x1x2048_0_2 main_v11
  let main_v13 : FVec F S8x4096x2048 .f32 := broadcastInDim S8x4096x2048 ![0, 1, 2] bcast_S8x1x2048_S8x4096x2048_0_1_2 main_v12
  let main_v14 : FVec F S8x4096x2048 .f32 := addf main_v9 main_v13
  let main_v15 : FVec F S8x4096x2048 .f32 := Host.negf main_v14
  let main_values : FVec F S8x4096x4 .f32 := (fun x => (Host.topK S8x4096x4 2 (FloatOps.cmpfTotal .gt) x sliceFits_S8x4096x2048_S8x4096x4).1) main_v15
  let main_indices : IVec S8x4096x4 32 := (fun x => (Host.topK S8x4096x4 2 (FloatOps.cmpfTotal .gt) x sliceFits_S8x4096x2048_S8x4096x4).2) main_v15
  let main_v16 : FVec F S8x4096x1 .f32 := (extractStridedSlice S8x4096x1 ![0, 0, 2] · slices_S8x4096x4_S8x4096x1_0_0_2) main_values
  let main_v17 : FVec F S8x4096 .f32 := shapeCast S8x4096 main_v16 shapeCasts_S8x4096x1_S8x4096
  let main_v18 : FVec F S8x4096x1 .f32 := (extractStridedSlice S8x4096x1 ![0, 0, 3] · slices_S8x4096x4_S8x4096x1_0_0_3) main_values
  fn_part1 (F := F) main_arg0 main_arg1 main_v17 main_v18
-- ==== Kernel.lean ====
abbrev S8x3x4096 : Shape := ⟨3, ![8, 3, 4096]⟩
abbrev S8x3x2048 : Shape := ⟨3, ![8, 3, 2048]⟩
abbrev S8x256x4096 : Shape := ⟨3, ![8, 256, 4096]⟩
abbrev S8x256x2048 : Shape := ⟨3, ![8, 256, 2048]⟩
abbrev S_ : Shape := ⟨0, ![]⟩
abbrev S8x4096 : Shape := ⟨2, ![8, 4096]⟩
abbrev S8x1x4096 : Shape := ⟨3, ![8, 1, 4096]⟩
abbrev S8x2048 : Shape := ⟨2, ![8, 2048]⟩
abbrev S8x2048x1 : Shape := ⟨3, ![8, 2048, 1]⟩
abbrev S8x512x4096 : Shape := ⟨3, ![8, 512, 4096]⟩
abbrev S1x3x1024 : Shape := ⟨3, ![1, 3, 1024]⟩
abbrev S1x3x2048 : Shape := ⟨3, ![1, 3, 2048]⟩
abbrev S1x1x1024 : Shape := ⟨3, ![1, 1, 1024]⟩
abbrev S1x2048x1 : Shape := ⟨3, ![1, 2048, 1]⟩
abbrev S1x256x2048 : Shape := ⟨3, ![1, 256, 2048]⟩
abbrev S1x256x1024 : Shape := ⟨3, ![1, 256, 1024]⟩
abbrev S1x512x1024 : Shape := ⟨3, ![1, 512, 1024]⟩
abbrev S3x1024 : Shape := ⟨2, ![3, 1024]⟩
abbrev S3x2048 : Shape := ⟨2, ![3, 2048]⟩
abbrev S2048x1024 : Shape := ⟨2, ![2048, 1024]⟩
abbrev S1x1024 : Shape := ⟨2, ![1, 1024]⟩
abbrev S2048x1 : Shape := ⟨2, ![2048, 1]⟩
abbrev S1024x1024 : Shape := ⟨2, ![1024, 1024]⟩
abbrev S512x1024 : Shape := ⟨2, ![512, 1024]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩
abbrev S8x1024 : Shape := ⟨2, ![8, 1024]⟩
abbrev S4x1024 : Shape := ⟨2, ![4, 1024]⟩
abbrev S2x1024 : Shape := ⟨2, ![2, 1024]⟩
abbrev S256x2048 : Shape := ⟨2, ![256, 2048]⟩

abbrev nBuf : Space → Nat
  | .hbm => 13
  | .vmem => 14
  | .smem => 0
  | _ => 0

abbrev bufTy : (tb : Table) → Fin (tcTables nBuf tb) → BufTy
  | .hbm, ⟨0, _⟩ => ⟨S8x3x4096, .f32⟩
  | .hbm, ⟨1, _⟩ => ⟨S8x3x2048, .f32⟩
  | .hbm, ⟨2, _⟩ => ⟨S8x256x4096, .f32⟩
  | .hbm, ⟨3, _⟩ => ⟨S8x256x2048, .f32⟩
  | .hbm, ⟨4, _⟩ => ⟨S8x3x4096, .f32⟩
  | .hbm, ⟨5, _⟩ => ⟨S_, .f32⟩
  | .hbm, ⟨6, _⟩ => ⟨S8x4096, .f32⟩
  | .hbm, ⟨7, _⟩ => ⟨S8x1x4096, .f32⟩
  | .hbm, ⟨8, _⟩ => ⟨S8x3x2048, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S8x512x4096, .f32⟩
  | .local _ .vmem, ⟨0, _⟩ => ⟨S1x3x1024, .f32⟩
  | .local _ .vmem, ⟨1, _⟩ => ⟨S1x3x1024, .f32⟩
  | .local _ .vmem, ⟨2, _⟩ => ⟨S1x3x2048, .f32⟩
  | .local _ .vmem, ⟨3, _⟩ => ⟨S1x3x2048, .f32⟩
  | .local _ .vmem, ⟨4, _⟩ => ⟨S1x1x1024, .f32⟩
  | .local _ .vmem, ⟨5, _⟩ => ⟨S1x1x1024, .f32⟩
  | .local _ .vmem, ⟨6, _⟩ => ⟨S1x2048x1, .f32⟩
  | .local _ .vmem, ⟨7, _⟩ => ⟨S1x2048x1, .f32⟩
  | .local _ .vmem, ⟨8, _⟩ => ⟨S1x256x2048, .f32⟩
  | .local _ .vmem, ⟨9, _⟩ => ⟨S1x256x2048, .f32⟩
  | .local _ .vmem, ⟨10, _⟩ => ⟨S1x256x1024, .f32⟩
  | .local _ .vmem, ⟨11, _⟩ => ⟨S1x256x1024, .f32⟩
  | .local _ .vmem, ⟨12, _⟩ => ⟨S1x512x1024, .f32⟩
  | .local _ .vmem, ⟨13, _⟩ => ⟨S1x512x1024, .f32⟩
  | _, _ => ⟨S8x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x3x4096 : Shape := ⟨3, ![8, 3, 4096]⟩
abbrev S8x3x2048 : Shape := ⟨3, ![8, 3, 2048]⟩
abbrev S8x256x4096 : Shape := ⟨3, ![8, 256, 4096]⟩
abbrev S8x256x2048 : Shape := ⟨3, ![8, 256, 2048]⟩
abbrev S8x4096x3 : Shape := ⟨3, ![8, 4096, 3]⟩
abbrev S8x2048x3 : Shape := ⟨3, ![8, 2048, 3]⟩
abbrev S_ : Shape := ⟨0, ![]⟩
abbrev S8x4096 : Shape := ⟨2, ![8, 4096]⟩
abbrev S8x4096x1 : Shape := ⟨3, ![8, 4096, 1]⟩
abbrev S8x4096x2048 : Shape := ⟨3, ![8, 4096, 2048]⟩
abbrev S8x2048 : Shape := ⟨2, ![8, 2048]⟩
abbrev S8x1x2048 : Shape := ⟨3, ![8, 1, 2048]⟩
abbrev S8x2048x256 : Shape := ⟨3, ![8, 2048, 256]⟩
abbrev S8x4096x3x1 : Shape := ⟨4, ![8, 4096, 3, 1]⟩
abbrev S8x4096x3x256 : Shape := ⟨4, ![8, 4096, 3, 256]⟩
abbrev S8x4096x256 : Shape := ⟨3, ![8, 4096, 256]⟩
abbrev S8x512x4096 : Shape := ⟨3, ![8, 512, 4096]⟩

abbrev nBuf : Space → Nat
  | .hbm => 54
  | .vmem => 0
  | .smem => 0
  | _ => 0

abbrev bufTy : (tb : Table) → Fin (tcTables nBuf tb) → BufTy
  | .hbm, ⟨0, _⟩ => ⟨S8x3x4096, .f32⟩
  | .hbm, ⟨1, _⟩ => ⟨S8x3x2048, .f32⟩
  | .hbm, ⟨2, _⟩ => ⟨S8x256x4096, .f32⟩
  | .hbm, ⟨3, _⟩ => ⟨S8x256x2048, .f32⟩
  | .hbm, ⟨4, _⟩ => ⟨S8x4096x3, .f32⟩
  | .hbm, ⟨5, _⟩ => ⟨S8x2048x3, .f32⟩
  | .hbm, ⟨6, _⟩ => ⟨S8x4096x3, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S8x4096x2048, .f32⟩
  | .hbm, ⟨11, _⟩ => ⟨S_, .f32⟩
  | .hbm, ⟨12, _⟩ => ⟨S8x4096x2048, .f32⟩
  | .hbm, ⟨13, _⟩ => ⟨S8x4096x2048, .f32⟩
  | .hbm, ⟨14, _⟩ => ⟨S8x4096x2048, .f32⟩
  | .hbm, ⟨15, _⟩ => ⟨S8x4096x2048, .f32⟩
  | .hbm, ⟨16, _⟩ => ⟨S8x2048x3, .f32⟩
  | .hbm, ⟨17, _⟩ => ⟨S_, .f32⟩
  | .hbm, ⟨18, _⟩ => ⟨S8x2048, .f32⟩
  | .hbm, ⟨19, _⟩ => ⟨S8x1x2048, .f32⟩
  | .hbm, ⟨20, _⟩ => ⟨S8x4096x2048, .f32⟩
  | .hbm, ⟨21, _⟩ => ⟨S8x4096x2048, .f32⟩
  | .hbm, ⟨22, _⟩ => ⟨S8x4096x2048, .f32⟩
  | .hbm, ⟨23, _⟩ => ⟨S8x4096x3, .f32⟩
  | .hbm, ⟨24, _⟩ => ⟨S8x4096x3, .i32⟩
  | .hbm, ⟨25, _⟩ => ⟨S8x4096x3, .f32⟩
  | .hbm, ⟨26, _⟩ => ⟨S_, .f32⟩
  | .hbm, ⟨27, _⟩ => ⟨S8x4096x3, .f32⟩
  | .hbm, ⟨28, _⟩ => ⟨S8x4096x3, .f32⟩
  | .hbm, ⟨29, _⟩ => ⟨S_, .f32⟩
  | .hbm, ⟨30, _⟩ => ⟨S8x4096x3, .f32⟩
  | .hbm, ⟨31, _⟩ => ⟨S8x4096x3, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S8x4096x3, .f32⟩
  | .hbm, ⟨36, _⟩ => ⟨S8x4096x3, .f32⟩
  | .hbm, ⟨37, _⟩ => ⟨S8x2048x256, .f32⟩
  | .hbm, ⟨38, _⟩ => ⟨S_, .i32⟩
  | .hbm, ⟨39, _⟩ => ⟨S8x4096x3, .i32⟩
  | .hbm, ⟨40, _⟩ => ⟨S8x4096x3, .i1⟩
  | .hbm, ⟨41, _⟩ => ⟨S_, .i32⟩
  | .hbm, ⟨42, _⟩ => ⟨S8x4096x3, .i32⟩
  | .hbm, ⟨43, _⟩ => ⟨S8x4096x3, .i32⟩
  | .hbm, ⟨44, _⟩ => ⟨S8x4096x3, .i32⟩
  | .hbm, ⟨45, _⟩ => ⟨S8x4096x3x1, .i32⟩
  | .hbm, ⟨46, _⟩ => ⟨S8x4096x3x256, .f32⟩
  | .hbm, ⟨47, _⟩ => ⟨S8x4096x3x1, .f32⟩
  | .hbm, ⟨48, _⟩ => ⟨S8x4096x3x256, .f32⟩
  | .hbm, ⟨49, _⟩ => ⟨S8x4096x3x256, .f32⟩
  | .hbm, ⟨50, _⟩ => ⟨S_, .f32⟩
  | .hbm, ⟨51, _⟩ => ⟨S8x4096x256, .f32⟩
  | .hbm, ⟨52, _⟩ => ⟨S8x256x4096, .f32⟩
  | .hbm, ⟨53, _⟩ => ⟨S8x512x4096, .f32⟩
  | _, _ => ⟨S8x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_values : Ref sig .tc := ⟨.hbm, 23, rfl⟩
abbrev main_indices : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Proof.Tournament.lean ====
/-
  The mathematics of choosing three smallest values by a tournament, apart from any program: what it means that three
  numbers are the three smallest of a group of keys, how the answer for a group follows from the answers for its two
  halves, and how the answer for all keys relates to an order that sorts them.
-/
module

public import Idealize.ShloMosaic.PureOps.Ideal.Laws

@[expose] public section

noncomputable section

namespace Cert.ThreeNearest

/-- How many of the 2048 keys whose number leaves remainder `i` modulo `h` have a value at most `x`. -/
def cnt (d : Fin 2048 → EReal) (h i : ℕ) (x : EReal) : ℕ :=
  (Finset.univ.filter fun j : Fin 2048 => j.val % h = i ∧ d j ≤ x).card

/-- `a`, `b` and `c` are the smallest, second smallest and third smallest value among the keys of remainder `i` modulo
    `h`: each lies below a bound exactly when that many keys do. -/
def Three (d : Fin 2048 → EReal) (h i : ℕ) (a b c : EReal) : Prop :=
  ∀ x, (a ≤ x ↔ 1 ≤ cnt d h i x) ∧ (b ≤ x ↔ 2 ≤ cnt d h i x) ∧ (c ≤ x ↔ 3 ≤ cnt d h i x)

/-- `a` and `b` are the smaller and the larger value of a group that holds two keys. -/
def Two (d : Fin 2048 → EReal) (h i : ℕ) (a b : EReal) : Prop :=
  ∀ x, (a ≤ x ↔ 1 ≤ cnt d h i x) ∧ (b ≤ x ↔ 2 ≤ cnt d h i x) ∧ cnt d h i x ≤ 2

/-- A remainder modulo `h` is one of two remainders modulo `2h`. -/
theorem mod_split (j h i : ℕ) (hi : i < h) : j % h = i ↔ (j % (2 * h) = i ∨ j % (2 * h) = i + h) := by
  have e : j % h = j % (2 * h) % h := (Nat.mod_mod_of_dvd j (Dvd.intro_left 2 rfl)).symm
  have hr : j % (2 * h) < 2 * h := Nat.mod_lt _ (by omega)
  rw [e]
  generalize j % (2 * h) = r at hr
  rcases Nat.lt_or_ge r h with hl | hl
  · rw [Nat.mod_eq_of_lt hl]; omega
  · rw [Nat.mod_eq_sub_mod hl, Nat.mod_eq_of_lt (by omega)]; omega

/-- The count of a group is the sum of the counts of its two halves. -/
theorem cnt_split (d : Fin 2048 → EReal) (h i : ℕ) (hi : i < h) (x : EReal) :
    cnt d h i x = cnt d (2 * h) i x + cnt d (2 * h) (i + h) x := by
  unfold cnt
  rw [← Finset.card_union_of_disjoint]
  · congr 1
    ext j
    simp only [Finset.mem_filter, Finset.mem_univ, true_and, Finset.mem_union, mod_split j.val h i hi]
    tauto
  · rw [Finset.disjoint_left]
    intro j h1 h2
    simp only [Finset.mem_filter, Finset.mem_univ, true_and] at h1 h2
    omega

/-- Modulo 2048 each group is one key. -/
theorem cnt_one (d : Fin 2048 → EReal) (i : Fin 2048) (x : EReal) :
    cnt d 2048 i.val x = if d i ≤ x then 1 else 0 := by
  unfold cnt
  have e : (Finset.univ.filter fun j : Fin 2048 => j.val % 2048 = i.val ∧ d j ≤ x)
      = if d i ≤ x then {i} else ∅ := by
    ext j
    simp only [Finset.mem_filter, Finset.mem_univ, true_and, Nat.mod_eq_of_lt j.isLt]
    split
    · rename_i hx
      simp only [Finset.mem_singleton]
      constructor
      · intro hj; exact Fin.ext hj.1
      · intro hj; subst hj; exact ⟨rfl, hx⟩
    · rename_i hx
      simp only [Finset.notMem_empty, iff_false, not_and]
      intro hj
      have : j = i := Fin.ext hj
      subst this; exact hx
  rw [e]
  split <;> simp

/-- Two single keys: the smaller and the larger. -/
theorem two_of_one (d : Fin 2048 → EReal) (i j : Fin 2048) (hj : j.val = i.val + 1024) :
    Two d 1024 i.val (min (d i) (d j)) (max (d i) (d j)) := by
  intro x
  rw [cnt_split d 1024 i.val (by omega), ← hj, cnt_one, cnt_one, min_le_iff, max_le_iff]
  split <;> split <;> simp [*]

/-- Two pairs: the three smallest of their four keys. -/
theorem three_of_two {d : Fin 2048 → EReal} {h i : ℕ} (hi : i < h) {a0 a1 b0 b1 : EReal}
    (ha : Two d (2 * h) i a0 a1) (hb : Two d (2 * h) (i + h) b0 b1) :
    Three d h i (min a0 b0) (min (max a0 b0) (min a1 b1)) (max (max a0 b0) (min a1 b1)) := by
  intro x
  obtain ⟨a0, a1, a2⟩ := ha x
  obtain ⟨b0, b1, b2⟩ := hb x
  rw [cnt_split d h i hi]
  simp only [min_le_iff, max_le_iff, a0, a1, b0, b1]
  omega

/-- Two groups: the three smallest of both from the three smallest of each. -/
theorem three_of_three {d : Fin 2048 → EReal} {h i : ℕ} (hi : i < h) {a0 a1 a2 b0 b1 b2 : EReal}
    (ha : Three d (2 * h) i a0 a1 a2) (hb : Three d (2 * h) (i + h) b0 b1 b2) :
    Three d h i (min a0 b0) (min (max a0 b0) (min a1 b1))
      (min (min (max (max a0 b0) (min a1 b1)) (max a1 b1)) (min a2 b2)) := by
  intro x
  obtain ⟨a0, a1, a2⟩ := ha x
  obtain ⟨b0, b1, b2⟩ := hb x
  rw [cnt_split d h i hi]
  simp only [min_le_iff, max_le_iff, a0, a1, a2, b0, b1, b2]
  omega

/-- In an order that sorts the keys, more than `k` keys lie below a bound exactly when the key in place `k` does. -/
theorem cnt_sorted (d : Fin 2048 → EReal) (σ : Fin 2048 → Fin 2048) (hσ : Function.Injective σ)
    (hd : ∀ i j, i < j → d (σ i) ≤ d (σ j)) (k : Fin 2048) (x : EReal) :
    k.val + 1 ≤ cnt d 1 0 x ↔ d (σ k) ≤ x := by
  have hm : ∀ i j, i ≤ j → d (σ i) ≤ d (σ j) := fun i j hij =>
    (lt_or_eq_of_le hij).elim (hd i j) (fun e => e ▸ le_refl _)
  have hb : Function.Bijective σ := (Finite.injective_iff_bijective).1 hσ
  have e : cnt d 1 0 x = (Finset.univ.filter fun i : Fin 2048 => d (σ i) ≤ x).card := by
    unfold cnt
    refine (Finset.card_bijective σ hb fun i => ?_).symm
    simp [Nat.mod_one]
  rw [e]
  constructor
  · intro hk
    by_contra hx
    have hs : (Finset.univ.filter fun i : Fin 2048 => d (σ i) ≤ x) ⊆ Finset.Iio k := by
      intro i hi
      simp only [Finset.mem_filter, Finset.mem_univ, true_and] at hi
      rw [Finset.mem_Iio]
      by_contra hik
      exact hx ((hm k i (not_lt.1 hik)).trans hi)
    have := Finset.card_le_card hs
    rw [Fin.card_Iio] at this
    omega
  · intro hx
    have hs : Finset.Iic k ⊆ (Finset.univ.filter fun i : Fin 2048 => d (σ i) ≤ x) := by
      intro i hi
      simp only [Finset.mem_filter, Finset.mem_univ, true_and]
      exact (hm i k (Finset.mem_Iic.1 hi)).trans hx
    have := Finset.card_le_card hs
    rw [Fin.card_Iic] at this
    exact this

/-- The three smallest values of all keys are the values in the first three places of a sorting order. -/
theorem three_sorted {d : Fin 2048 → EReal} {a b c : EReal} (h : Three d 1 0 a b c) (σ : Fin 2048 → Fin 2048)
    (hσ : Function.Injective σ) (hd : ∀ i j, i < j → d (σ i) ≤ d (σ j)) :
    a = d (σ 0) ∧ b = d (σ 1) ∧ c = d (σ 2) :=
  ⟨eq_of_forall_ge_iff fun x => (h x).1.trans (cnt_sorted d σ hσ hd 0 x),
    eq_of_forall_ge_iff fun x => (h x).2.1.trans (cnt_sorted d σ hσ hd 1 x),
    eq_of_forall_ge_iff fun x => (h x).2.2.trans (cnt_sorted d σ hσ hd 2 x)⟩

/-- A sum over all keys, each weighted by whether its value is one of the three smallest, is the sum over the first
    three places of a sorting order, provided the third place is strictly below the fourth. -/
theorem sum_selected (d f : Fin 2048 → EReal) (g : EReal → EReal) (σ : Fin 2048 → Fin 2048)
    (hσ : Function.Injective σ) (hd : ∀ i j, i < j → d (σ i) ≤ d (σ j)) (h34 : d (σ 2) < d (σ 3)) :
    (∑ j, f j * (if d j = d (σ 0) then g (d (σ 0)) else if d j = d (σ 1) then g (d (σ 1))
        else if d j = d (σ 2) then g (d (σ 2)) else 0))
      = f (σ 0) * g (d (σ 0)) + f (σ 1) * g (d (σ 1)) + f (σ 2) * g (d (σ 2)) := by
  have hb : Function.Bijective σ := (Finite.injective_iff_bijective).1 hσ
  rw [← hb.sum_comp]
  have hm : ∀ i j, i ≤ j → d (σ i) ≤ d (σ j) := fun i j hij =>
    (lt_or_eq_of_le hij).elim (hd i j) (fun e => e ▸ le_refl _)
  have hz : ∀ i : Fin 2048, i ∉ ({0, 1, 2} : Finset (Fin 2048)) →
      f (σ i) * (if d (σ i) = d (σ 0) then g (d (σ 0)) else if d (σ i) = d (σ 1) then g (d (σ 1))
        else if d (σ i) = d (σ 2) then g (d (σ 2)) else 0) = 0 := by
    intro i hi
    have h3 : (3 : Fin 2048) ≤ i := by
      simp only [Finset.mem_insert, Finset.mem_singleton, not_or] at hi
      rw [Fin.le_def]
      obtain ⟨h0, h1, h2⟩ := hi
      have e0 : i.val ≠ 0 := fun e => h0 (Fin.ext e)
      have e1 : i.val ≠ 1 := fun e => h1 (Fin.ext e)
      have e2 : i.val ≠ 2 := fun e => h2 (Fin.ext e)
      show 3 ≤ i.val
      omega
    have hlt : d (σ 2) < d (σ i) := lt_of_lt_of_le h34 (hm _ _ h3)
    have l0 : d (σ 0) ≤ d (σ 2) := hm _ _ (by decide)
    have l1 : d (σ 1) ≤ d (σ 2) := hm _ _ (by decide)
    rw [if_neg (ne_of_gt (lt_of_le_of_lt l0 hlt)), if_neg (ne_of_gt (lt_of_le_of_lt l1 hlt)),
      if_neg (ne_of_gt hlt), mul_zero]
  rw [← Finset.sum_subset (Finset.subset_univ ({0, 1, 2} : Finset (Fin 2048))) (fun i _ hi => hz i hi)]
  rw [Finset.sum_insert (by decide), Finset.sum_insert (by decide), Finset.sum_singleton, if_pos rfl]
  have e1 : (if d (σ 1) = d (σ 0) then g (d (σ 0)) else if d (σ 1) = d (σ 1) then g (d (σ 1))
      else if d (σ 1) = d (σ 2) then g (d (σ 2)) else 0) = g (d (σ 1)) := by
    split
    · rename_i h; rw [h]
    · rw [if_pos rfl]
  have e2 : (if d (σ 2) = d (σ 0) then g (d (σ 0)) else if d (σ 2) = d (σ 1) then g (d (σ 1))
      else if d (σ 2) = d (σ 2) then g (d (σ 2)) else 0) = g (d (σ 2)) := by
    split
    · rename_i h; rw [h]
    · split
      · rename_i h; rw [h]
      · rw [if_pos rfl]
  rw [e1, e2, add_assoc]

end Cert.ThreeNearest

end
-- ==== Proof.Levels.lean ====
/-
  The kernel's tournament over the rows of the block of distances: at every level, row `i` of the arrays the kernel holds
  is the three smallest distances among the keys of remainder `i`, down to the one row that is the three smallest of all.
-/
module

public import proofs.«01_k».proof.Proof.Tournament
public import proofs.«01_k».proof.Proof.Gen.KernelIdeal.Skeleton
public import Idealize.ShloMosaic.Lib.Pointwise

@[expose] public section

noncomputable section

namespace Cert.ThreeNearest

open Idealize.ShloMosaic Cert.KernelIdeal Cert.KernelIdeal.Gen

/-- The distances of all keys to the query in column `t`. -/
def column (D : FVec Ideal S2048x1024 .f32) (t : Fin 1024) : Fin 2048 → EReal := fun j => D (ix2 j t)

/-- Three arrays of `h` rows hold, in row `i` and column `t`, the three smallest distances to query `t` among the keys
    whose number leaves remainder `i` modulo `h`. -/
def Level (D : FVec Ideal S2048x1024 .f32) (h : ℕ) (T0 T1 T2 : FVec Ideal ⟨2, ![h, 1024]⟩ .f32) : Prop :=
  ∀ (i : Fin h) (t : Fin 1024), Three (column D t) h i.val (T0 (ix2 i t)) (T1 (ix2 i t)) (T2 (ix2 i t))

/-- A block of rows cut out from row `o` reads the source `o` rows further down. -/
theorem rows_apply {n m : ℕ} (o : ℕ) (X : FVec Ideal ⟨2, ![n, 1024]⟩ .f32)
    (s : (⟨2, ![n, 1024]⟩ : Shape).Slices ![o, 0] ⟨2, ![m, 1024]⟩) (i : Fin m) (t : Fin 1024) (k : Fin n)
    (hk : k.val = o + i.val) :
    extractStridedSlice ⟨2, ![m, 1024]⟩ ![o, 0] X s (ix2 i t) = X (ix2 k t) := by
  refine extractStridedSlice_apply _ _ _ _ _ (fun a => ?_)
  match a with
  | ⟨0, _⟩ => exact hk
  | ⟨1, _⟩ => exact (Nat.zero_add _).symm

/-- One step of the tournament: the upper and lower halves of a level's rows, merged, are the next level. -/
theorem level_step {D : FVec Ideal S2048x1024 .f32} {H h : ℕ} (hH : H = 2 * h)
    {T0 T1 T2 : FVec Ideal ⟨2, ![H, 1024]⟩ .f32} (hl : Level D H T0 T1 T2)
    (s : (⟨2, ![H, 1024]⟩ : Shape).Slices ![0, 0] ⟨2, ![h, 1024]⟩)
    (s' : (⟨2, ![H, 1024]⟩ : Shape).Slices ![h, 0] ⟨2, ![h, 1024]⟩) :
    Level D h
      (minimumf (extractStridedSlice ⟨2, ![h, 1024]⟩ ![0, 0] T0 s) (extractStridedSlice ⟨2, ![h, 1024]⟩ ![h, 0] T0 s'))
      (minimumf
        (maximumf (extractStridedSlice ⟨2, ![h, 1024]⟩ ![0, 0] T0 s) (extractStridedSlice ⟨2, ![h, 1024]⟩ ![h, 0] T0 s'))
        (minimumf (extractStridedSlice ⟨2, ![h, 1024]⟩ ![0, 0] T1 s) (extractStridedSlice ⟨2, ![h, 1024]⟩ ![h, 0] T1 s')))
      (minimumf
        (minimumf
          (maximumf
            (maximumf (extractStridedSlice ⟨2, ![h, 1024]⟩ ![0, 0] T0 s)
              (extractStridedSlice ⟨2, ![h, 1024]⟩ ![h, 0] T0 s'))
            (minimumf (extractStridedSlice ⟨2, ![h, 1024]⟩ ![0, 0] T1 s)
              (extractStridedSlice ⟨2, ![h, 1024]⟩ ![h, 0] T1 s')))
          (maximumf (extractStridedSlice ⟨2, ![h, 1024]⟩ ![0, 0] T1 s)
            (extractStridedSlice ⟨2, ![h, 1024]⟩ ![h, 0] T1 s')))
        (minimumf (extractStridedSlice ⟨2, ![h, 1024]⟩ ![0, 0] T2 s)
          (extractStridedSlice ⟨2, ![h, 1024]⟩ ![h, 0] T2 s'))) := by
  subst hH
  intro i t
  have lo : i.val < 2 * h := by omega
  have hi : i.val + h < 2 * h := by omega
  have e0 := fun X : FVec Ideal ⟨2, ![2 * h, 1024]⟩ .f32 =>
    rows_apply 0 X s i t ⟨i.val, lo⟩ (Nat.zero_add _).symm
  have e1 := fun X : FVec Ideal ⟨2, ![2 * h, 1024]⟩ .f32 =>
    rows_apply h X s' i t ⟨i.val + h, hi⟩ (Nat.add_comm _ _)
  have := three_of_three i.isLt (hl ⟨i.val, lo⟩ t) (hl ⟨i.val + h, hi⟩ t)
  simp only [← e0, ← e1] at this
  exact this

section Start

variable (v0 : Vec Ideal S1x3x1024 .f32) (v2 : Vec Ideal S1x3x2048 .f32) (v9 : Vec Ideal S1x1x1024 .f32)
  (v11 : Vec Ideal S1x2048x1 .f32)

/-- The first level: rows `i` and `i + 1024` of the distances, as the smaller and the larger. -/
theorem level1024 (i : Fin 1024) (t : Fin 1024) :
    Two (column (k0_pay2 v0 v2 v9 v11) t) 1024 i.val (k0_pay3 v0 v2 v9 v11 (ix2 i t))
      (maximumf (extractStridedSlice S1024x1024 ![0, 0] (k0_pay2 v0 v2 v9 v11) slices_S2048x1024_o0_0_S1024x1024)
        (extractStridedSlice S1024x1024 ![1024, 0] (k0_pay2 v0 v2 v9 v11) slices_S2048x1024_o1024_0_S1024x1024)
        (ix2 i t)) := by
  have := two_of_one (column (k0_pay2 v0 v2 v9 v11) t) ⟨i.val, by omega⟩ ⟨i.val + 1024, by omega⟩ rfl
  have e0 := rows_apply 0 (k0_pay2 v0 v2 v9 v11) slices_S2048x1024_o0_0_S1024x1024 i t ⟨i.val, by omega⟩
    (Nat.zero_add _).symm
  have e1 := rows_apply 1024 (k0_pay2 v0 v2 v9 v11) slices_S2048x1024_o1024_0_S1024x1024 i t ⟨i.val + 1024, by omega⟩
    (Nat.add_comm _ _)
  simp only [column, ← e0, ← e1] at this
  exact this

/-- The second level: 512 rows of three. -/
theorem level512 : Level (k0_pay2 v0 v2 v9 v11) 512 (k0_pay6 v0 v2 v9 v11) (k0_pay9 v0 v2 v9 v11)
    (maximumf (k0_pay7 v0 v2 v9 v11) (k0_pay8 v0 v2 v9 v11)) := by
  intro i t
  have e0 := fun X : FVec Ideal S1024x1024 .f32 =>
    rows_apply 0 X slices_S1024x1024_o0_0_S512x1024 i t ⟨i.val, by omega⟩ (Nat.zero_add _).symm
  have e1 := fun X : FVec Ideal S1024x1024 .f32 =>
    rows_apply 512 X slices_S1024x1024_o512_0_S512x1024 i t ⟨i.val + 512, by omega⟩ (Nat.add_comm _ _)
  have := three_of_two i.isLt (level1024 v0 v2 v9 v11 ⟨i.val, by omega⟩ t)
    (level1024 v0 v2 v9 v11 ⟨i.val + 512, by omega⟩ t)
  simp only [← e0, ← e1] at this
  exact this

/-- The third level: 256 rows. -/
theorem level256 : Level (k0_pay2 v0 v2 v9 v11) 256 (k0_pay14 v0 v2 v9 v11) (k0_pay17 v0 v2 v9 v11)
    (minimumf (minimumf (maximumf (k0_pay15 v0 v2 v9 v11) (k0_pay16 v0 v2 v9 v11)) (k0_pay18 v0 v2 v9 v11))
      (k0_pay19 v0 v2 v9 v11)) :=
  level_step rfl (level512 v0 v2 v9 v11) slices_S512x1024_o0_0_S256x1024 slices_S512x1024_o256_0_S256x1024

end Start

/-- From 256 rows to 16. -/
theorem level16 {D : FVec Ideal S2048x1024 .f32} {v38 v39 v40 v41 v42 v43 : FVec Ideal S256x1024 .f32}
    (hl : Level D 256 v38 v41 (minimumf (minimumf (maximumf v39 v40) v42) v43)) :
    Level D 16 (k0_pay48 v38) (k0_pay51 v38 v41)
      (minimumf (minimumf (maximumf (k0_pay49 v38) (k0_pay50 v38 v41)) (k0_pay52 v38 v41))
        (k0_pay53 v38 v39 v40 v41 v42 v43)) := by
  have h128 := level_step (h := 128) rfl hl slices_S256x1024_o0_0_S128x1024 slices_S256x1024_o128_0_S128x1024
  have h64 := level_step (h := 64) rfl h128 slices_S128x1024_o0_0_S64x1024 slices_S128x1024_o64_0_S64x1024
  have h32 := level_step (h := 32) rfl h64 slices_S64x1024_o0_0_S32x1024 slices_S64x1024_o32_0_S32x1024
  exact level_step (h := 16) rfl h32 slices_S32x1024_o0_0_S16x1024 slices_S32x1024_o16_0_S16x1024

/-- From 16 rows to the one row of the three smallest distances. -/
theorem level1 {D : FVec Ideal S2048x1024 .f32} {v98 v99 v100 v101 v102 v103 : FVec Ideal S16x1024 .f32}
    (hl : Level D 16 v98 v101 (minimumf (minimumf (maximumf v99 v100) v102) v103)) :
    Level D 1 (k0_pay82 v98) (k0_pay85 v98 v101)
      (minimumf (minimumf (maximumf (k0_pay83 v98) (k0_pay84 v98 v101)) (k0_pay86 v98 v101))
        (k0_pay87 v98 v99 v100 v101 v102 v103)) := by
  have h8 := level_step (h := 8) rfl hl slices_S16x1024_o0_0_S8x1024 slices_S16x1024_o8_0_S8x1024
  have h4 := level_step (h := 4) rfl h8 slices_S8x1024_o0_0_S4x1024 slices_S8x1024_o4_0_S4x1024
  have h2 := level_step (h := 2) rfl h4 slices_S4x1024_o0_0_S2x1024 slices_S4x1024_o2_0_S2x1024
  exact level_step (h := 1) rfl h2 slices_S2x1024_o0_0_S1x1024 slices_S2x1024_o1_0_S1x1024

end Cert.ThreeNearest

end
-- ==== Proof.BlockValue.lean ====
/-
  What one block of the kernel computes, entry by entry: the distances of the block, the weighted sum of the features in
  the upper half of the output block, and the copied features in its lower half.
-/
module

public import proofs.«01_k».proof.Proof.Levels
public import proofs.«01_k».proof.Proof.Gen.KernelIdeal.Frame

@[expose] public section

noncomputable section

namespace Cert.ThreeNearest

open Idealize.ShloMosaic Cert.KernelIdeal Cert.KernelIdeal.Gen

/-- The weight of a distance before scaling: one over the distance, the distance held above a small constant. -/
def inv (y : EReal) : EReal := Ideal.div 1 (max y (Ideal.ofBits .f32 0x2EDBE6FF#32))

/-- The distance of key `j` to query `t` as the kernel forms it. -/
theorem distance_apply (v0 : Vec Ideal S1x3x1024 .f32) (v2 : Vec Ideal S1x3x2048 .f32) (v9 : Vec Ideal S1x1x1024 .f32)
    (v11 : Vec Ideal S1x2048x1 .f32) (j : Fin 2048) (t : Fin 1024) :
    k0_pay2 v0 v2 v9 v11 (ix2 j t)
      = (v9 (ix3 0 0 t) + ∑ k : Fin 3, (Ideal.ofBits .f32 0xC0000000#32 * v2 (ix3 0 k j)) * v0 (ix3 0 k t))
        + v11 (ix3 0 j 0) := by
  pointwise [k0_pay2]

/-- The weighted sum of the features, given the three smallest distances `a`, `d` and the third spelt out. -/
theorem features_apply (D : FVec Ideal S2048x1024 .f32) (a b c d e f : FVec Ideal S1x1024 .f32)
    (x : Vec Ideal S1x256x2048 .f32) (r : Fin 256) (t : Fin 1024) (m0 m1 m2 : EReal) (h0 : a (ix2 0 t) = m0)
    (h1 : d (ix2 0 t) = m1) (h2 : minimumf (minimumf (maximumf b c) e) f (ix2 0 t) = m2) :
    k0_pay88 D a b c d e f x (ix3 0 r t)
      = ∑ j : Fin 2048, x (ix3 0 r j) *
          (if column D t j = m0 then inv m0 * Ideal.div 1 (inv m0 + inv m1 + inv m2)
            else if column D t j = m1 then inv m1 * Ideal.div 1 (inv m0 + inv m1 + inv m2)
            else if column D t j = m2 then inv m2 * Ideal.div 1 (inv m0 + inv m1 + inv m2) else 0) := by
  subst h0 h1 h2
  pointwise [k0_pay88, inv, column]

/-- The features of the keys in the first three places of an order `σ`, each weighted by one over its distance `d` and
    scaled by the sum of the three weights. -/
def mix (d f : Fin 2048 → EReal) (σ : Fin 2048 → Fin 2048) : EReal :=
  f (σ 0) * (inv (d (σ 0)) * Ideal.div 1 (inv (d (σ 0)) + inv (d (σ 1)) + inv (d (σ 2))))
    + f (σ 1) * (inv (d (σ 1)) * Ideal.div 1 (inv (d (σ 0)) + inv (d (σ 1)) + inv (d (σ 2))))
    + f (σ 2) * (inv (d (σ 2)) * Ideal.div 1 (inv (d (σ 0)) + inv (d (σ 1)) + inv (d (σ 2))))

/-- The weighted sum of the features from the last 16 rows of the tournament, where an order `σ` sorts the keys by their
    distance to query `t` with the third place strictly below the fourth. -/
theorem features_of_level {D : FVec Ideal S2048x1024 .f32} {v98 v99 v100 v101 v102 v103 : FVec Ideal S16x1024 .f32}
    (hl : Level D 16 v98 v101 (minimumf (minimumf (maximumf v99 v100) v102) v103)) (x : Vec Ideal S1x256x2048 .f32)
    (r : Fin 256) (t : Fin 1024) (σ : Fin 2048 → Fin 2048) (hσ : Function.Injective σ)
    (hd : ∀ i j, i < j → column D t (σ i) ≤ column D t (σ j)) (h34 : column D t (σ 2) < column D t (σ 3)) :
    k0_pay88 D (k0_pay82 v98) (k0_pay83 v98) (k0_pay84 v98 v101) (k0_pay85 v98 v101) (k0_pay86 v98 v101)
        (k0_pay87 v98 v99 v100 v101 v102 v103) x (ix3 0 r t)
      = mix (column D t) (fun j => x (ix3 0 r j)) σ := by
  have h1 := level1 hl 0 t
  obtain ⟨h0, h1, h2⟩ := three_sorted h1 σ hσ hd
  rw [features_apply D _ _ _ _ _ _ x r t _ _ _ h0 h1 h2]
  exact sum_selected (column D t) (fun j => x (ix3 0 r j)) (fun y => inv y * Ideal.div 1 (inv (column D t (σ 0))
    + inv (column D t (σ 1)) + inv (column D t (σ 2)))) σ hσ hd h34

/-- Two pieces written to the output block, one over its lower 256 rows and one over its upper 256: the upper rows read
    the second piece. -/
theorem pieces_upper (P Q : S1x256x1024.Idx → EReal) (r : Fin 256) (t : Fin 1024) :
    View.canon (Val := Elt Ideal) (e := .f32) [⟨r0_7, P⟩, ⟨r0_5, Q⟩] (ix3 0 ⟨r.val, by omega⟩ t) = Q (ix3 0 r t) := by
  have e : (ix3 0 ⟨r.val, by omega⟩ t : S1x512x1024.Idx) = r0_5.emb (ix3 0 r t) := by
    funext a
    apply Fin.ext
    match a with
    | ⟨0, _⟩ => rfl
    | ⟨1, _⟩ => show r.val = 0 + 1 * r.val; omega
    | ⟨2, _⟩ => show t.val = 0 + 1 * t.val; omega
  have hn : (ix3 0 ⟨r.val, by omega⟩ t : S1x512x1024.Idx) ∉ r0_7.set := by
    rw [Rect.mem_set_unit]
    intro h
    have h1 : 256 ≤ r.val := (h 1).1
    exact absurd r.isLt (Nat.not_lt.2 h1)
  have s := View.canon_cons_of_not_mem (Val := Elt Ideal) (e := .f32) ⟨r0_7, P⟩ [⟨r0_5, Q⟩] hn
  have s' := View.canon_cons_emb (Val := Elt Ideal) (e := .f32) r0_5 Q [] (ix3 0 r t)
  rw [← e] at s'
  exact s.trans s'

section Block

variable (x0 : Vec Ideal S1x3x1024 .f32) (x1 : Vec Ideal S1x3x2048 .f32) (x2 : Vec Ideal S1x1x1024 .f32)
  (x3 : Vec Ideal S1x2048x1 .f32) (x4 : Vec Ideal S1x256x2048 .f32) (x5 : Vec Ideal S1x256x1024 .f32)

/-- The lower 256 rows of the output block are the query features. -/
theorem out_lower (r : Fin 256) (t : Fin 1024) :
    out0_6 x0 x1 x2 x3 x4 x5 (ix3 0 ⟨256 + r.val, by omega⟩ t) = x5 (ix3 0 r t) := by
  have e : (ix3 0 ⟨256 + r.val, by omega⟩ t : S1x512x1024.Idx) = r0_7.emb (ix3 0 r t) := by
    funext a
    apply Fin.ext
    match a with
    | ⟨0, _⟩ => rfl
    | ⟨1, _⟩ => show 256 + r.val = 256 + 1 * r.val; omega
    | ⟨2, _⟩ => show t.val = 0 + 1 * t.val; omega
  unfold out0_6
  rw [e, View.canon_cons_emb, View.ld_unit_zero (S := S1x256x1024) (funext fun a => by fin_cases a <;> rfl)]
  pointwise [k0_pay1]

/-- The upper 256 rows of the output block, where an order `σ` sorts the keys by their distance to query `t` with the
    third place strictly below the fourth: the features of the first three keys, weighted. -/
theorem out_upper (r : Fin 256) (t : Fin 1024) (σ : Fin 2048 → Fin 2048) (hσ : Function.Injective σ)
    (hd : ∀ i j, i < j → column (k0_pay2 x0 x1 x2 x3) t (σ i) ≤ column (k0_pay2 x0 x1 x2 x3) t (σ j))
    (h34 : column (k0_pay2 x0 x1 x2 x3) t (σ 2) < column (k0_pay2 x0 x1 x2 x3) t (σ 3)) :
    out0_6 x0 x1 x2 x3 x4 x5 (ix3 0 ⟨r.val, by omega⟩ t)
      = mix (column (k0_pay2 x0 x1 x2 x3) t) (fun j => x4 (ix3 0 r j)) σ := by
  unfold out0_6
  refine (pieces_upper _ _ r t).trans ?_
  unfold k0_pay92 k0_pay91 k0_pay90 k0_pay89
  rw [View.ld_unit_zero (S := S1x3x1024) (funext fun a => by fin_cases a <;> rfl),
    View.ld_unit_zero (S := S1x3x2048) (funext fun a => by fin_cases a <;> rfl),
    View.ld_unit_zero (S := S1x1x1024) (funext fun a => by fin_cases a <;> rfl),
    View.ld_unit_zero (S := S1x2048x1) (funext fun a => by fin_cases a <;> rfl),
    View.ld_unit_zero (S := S1x256x2048) (funext fun a => by fin_cases a <;> rfl)]
  exact features_of_level (level16 (level256 x0 x1 x2 x3)) x4 r t σ hσ hd h34

end Block

end Cert.ThreeNearest

end
-- ==== Proof.KernelArray.lean ====
/-
  What the kernel leaves in its result array, entry by entry, in terms of the arrays it was given: which block of each
  argument a grid point works on, the two arrays of squared norms computed before the grid starts, and the two halves of
  the result.
-/
module

public import proofs.«01_k».proof.Proof.BlockValue
public import proofs.«01_k».proof.Proof.Gen.KernelIdeal.Value
public import Idealize.ShloMosaic.Lib.StableHlo.Run

@[expose] public section

noncomputable section

namespace Cert.ThreeNearest

open Idealize.ShloMosaic Idealize.ShloMosaic.TcCoe Cert.KernelIdeal Cert.KernelIdeal.Gen

/-- The squared distance of query `n` and key `j` of batch `b`, as the kernel forms it: the query's squared norm, plus the
    product of the coordinates with the key scaled by minus two, plus the key's squared norm. -/
def kdist (q : FVec Ideal S8x3x4096 .f32) (k : FVec Ideal S8x3x2048 .f32) (b : Fin 8) (n : Fin 4096) (j : Fin 2048) :
    EReal :=
  ((∑ d : Fin 3, q (ix3 b d n) * q (ix3 b d n))
      + ∑ d : Fin 3, (Ideal.ofBits .f32 0xC0000000#32 * k (ix3 b d j)) * q (ix3 b d n))
    + ∑ d : Fin 3, k (ix3 b d j) * k (ix3 b d j)

variable (m : (ℓ : Loc nD τ sig) → Buf (Elt Ideal) ℓ) (c : Dev nD)

/-- The launched contents of the four arguments, as arrays. -/
abbrev argQ : FVec Ideal S8x3x4096 .f32 := m (c.tc.loc main_arg0)
/-- The key coordinates. -/
abbrev argK : FVec Ideal S8x3x2048 .f32 := m (c.tc.loc main_arg1)
/-- The query features. -/
abbrev argF : FVec Ideal S8x256x4096 .f32 := m (c.tc.loc main_arg2)
/-- The key features. -/
abbrev argG : FVec Ideal S8x256x2048 .f32 := m (c.tc.loc main_arg3)

/-- The first array of squared norms, of the queries. -/
theorem query_norms (b : Fin 8) (n : Fin 4096) :
    (V m c main_call0_v2 : FVec Ideal S8x1x4096 .f32) (ix3 b 0 n)
      = ∑ d : Fin 3, argQ m c (ix3 b d n) * argQ m c (ix3 b d n) := by
  have e : V m c main_call0_v2 = broadcastInDim S8x1x4096 ![0, 2] bcast_S8x4096_S8x1x4096_0_2
      (Host.reduceAdd (mulf (m (c.tc.loc main_arg0)) (m (c.tc.loc main_arg0))) (constant (F := Ideal) S_ .f32 0x00000000#32)
        reducesTo_S8x3x4096_S8x4096_d1 h_S_) := by
    dsimp only [V, hostOps0]
    after_results
    rfl
  rw [e]
  pointwise

/-- The second array of squared norms, of the keys. -/
theorem key_norms (b : Fin 8) (j : Fin 2048) :
    (V m c main_call0_v5 : FVec Ideal S8x2048x1 .f32) (ix3 b j 0)
      = ∑ d : Fin 3, argK m c (ix3 b d j) * argK m c (ix3 b d j) := by
  have e : V m c main_call0_v5 = broadcastInDim S8x2048x1 ![0, 1] bcast_S8x2048_S8x2048x1_0_1
      (Host.reduceAdd (mulf (m (c.tc.loc main_arg1)) (m (c.tc.loc main_arg1))) (constant (F := Ideal) S_ .f32 0x00000000#32)
        reducesTo_S8x3x2048_S8x2048_d1 h_S_) := by
    dsimp only [V, hostOps0]
    after_results
    rfl
  rw [e]
  pointwise

/-- The grid point that works on tile `s` of batch `b`. -/
def point (b : Fin 8) (s : Fin 4) : Fin cfg0.N := ⟨4 * b.val + s.val, by rw [show cfg0.N = 32 from rfl]; omega⟩

/-- Where each window's block lies at each grid point: the batch along the first axis, and the tile along the last axis of
    the windows that follow the queries. -/
theorem index_facts : ∀ t : Fin cfg0.N,
    (win0_0.index t 0 = t.val / 4 ∧ win0_0.index t 1 = 0 ∧ win0_0.index t 2 = t.val % 4)
    ∧ (win0_1.index t 0 = t.val / 4 ∧ win0_1.index t 1 = 0 ∧ win0_1.index t 2 = 0)
    ∧ (win0_2.index t 0 = t.val / 4 ∧ win0_2.index t 1 = 0 ∧ win0_2.index t 2 = t.val % 4)
    ∧ (win0_3.index t 0 = t.val / 4 ∧ win0_3.index t 1 = 0 ∧ win0_3.index t 2 = 0)
    ∧ (win0_4.index t 0 = t.val / 4 ∧ win0_4.index t 1 = 0 ∧ win0_4.index t 2 = 0)
    ∧ (win0_5.index t 0 = t.val / 4 ∧ win0_5.index t 1 = 0 ∧ win0_5.index t 2 = t.val % 4)
    ∧ (win0_6.index t 0 = t.val / 4 ∧ win0_6.index t 1 = 0 ∧ win0_6.index t 2 = t.val % 4) :=
  (by decide +kernel : ∀ t : Fin grid0.N, _)

/-- Every grid point writes its block back. -/
theorem flush_all : ∀ t : Fin cfg0.N, (cfg0.win 6).flush t = true :=
  (by decide +kernel : ∀ t : Fin grid0.N, _)

/-- The query's number from its tile and its column. -/
abbrev query (s : Fin 4) (t : Fin 1024) : Fin 4096 := ⟨1024 * s.val + t.val, by omega⟩

section Blocks

variable (b : Fin 8) (s : Fin 4)

theorem point_div : (point b s).val / 4 = b.val := by show (4 * b.val + s.val) / 4 = b.val; omega
theorem point_mod : (point b s).val % 4 = s.val := by show (4 * b.val + s.val) % 4 = s.val; omega

/-- The block of query coordinates. -/
theorem block0 (d : Fin 3) (t : Fin 1024) :
    (iblk m c 0 (point b s) : Vec Ideal S1x3x1024 .f32) (ix3 0 d t) = argQ m c (ix3 b d (query s t)) := by
  obtain ⟨⟨i0, i1, i2⟩, -⟩ := index_facts (point b s)
  rw [point_div] at i0
  rw [point_mod] at i2
  unfold iblk
  rw [View.read_apply]
  show V m c main_arg0 _ = _
  rw [V_main_arg0]
  refine congrArg (argQ m c) (funext fun a => Fin.ext ?_)
  match a with
  | ⟨0, _⟩ => show win0_0.index (point b s) 0 * 1 + 1 * 0 = b.val; omega
  | ⟨1, _⟩ => show win0_0.index (point b s) 1 * 3 + 1 * d.val = d.val; omega
  | ⟨2, _⟩ => show win0_0.index (point b s) 2 * 1024 + 1 * t.val = 1024 * s.val + t.val; omega

/-- The block of key coordinates. -/
theorem block1 (d : Fin 3) (j : Fin 2048) :
    (iblk m c 1 (point b s) : Vec Ideal S1x3x2048 .f32) (ix3 0 d j) = argK m c (ix3 b d j) := by
  obtain ⟨-, ⟨i0, i1, i2⟩, -⟩ := index_facts (point b s)
  rw [point_div] at i0
  unfold iblk
  rw [View.read_apply]
  show V m c main_arg1 _ = _
  rw [V_main_arg1]
  refine congrArg (argK m c) (funext fun a => Fin.ext ?_)
  match a with
  | ⟨0, _⟩ => show win0_1.index (point b s) 0 * 1 + 1 * 0 = b.val; omega
  | ⟨1, _⟩ => show win0_1.index (point b s) 1 * 3 + 1 * d.val = d.val; omega
  | ⟨2, _⟩ => show win0_1.index (point b s) 2 * 2048 + 1 * j.val = j.val; omega

/-- The block of the queries' squared norms. -/
theorem block2 (t : Fin 1024) :
    (iblk m c 2 (point b s) : Vec Ideal S1x1x1024 .f32) (ix3 0 0 t)
      = ∑ d : Fin 3, argQ m c (ix3 b d (query s t)) * argQ m c (ix3 b d (query s t)) := by
  obtain ⟨-, -, ⟨i0, i1, i2⟩, -⟩ := index_facts (point b s)
  rw [point_div] at i0
  rw [point_mod] at i2
  rw [← query_norms]
  unfold iblk
  rw [View.read_apply]
  show V m c main_call0_v2 _ = _
  refine congrArg (V m c main_call0_v2) (funext fun a => Fin.ext ?_)
  match a with
  | ⟨0, _⟩ => show win0_2.index (point b s) 0 * 1 + 1 * 0 = b.val; omega
  | ⟨1, _⟩ => show win0_2.index (point b s) 1 * 1 + 1 * 0 = 0; omega
  | ⟨2, _⟩ => show win0_2.index (point b s) 2 * 1024 + 1 * t.val = 1024 * s.val + t.val; omega

/-- The block of the keys' squared norms. -/
theorem block3 (j : Fin 2048) :
    (iblk m c 3 (point b s) : Vec Ideal S1x2048x1 .f32) (ix3 0 j 0)
      = ∑ d : Fin 3, argK m c (ix3 b d j) * argK m c (ix3 b d j) := by
  obtain ⟨-, -, -, ⟨i0, i1, i2⟩, -⟩ := index_facts (point b s)
  rw [point_div] at i0
  rw [← key_norms]
  unfold iblk
  rw [View.read_apply]
  show V m c main_call0_v5 _ = _
  refine congrArg (V m c main_call0_v5) (funext fun a => Fin.ext ?_)
  match a with
  | ⟨0, _⟩ => show win0_3.index (point b s) 0 * 1 + 1 * 0 = b.val; omega
  | ⟨1, _⟩ => show win0_3.index (point b s) 1 * 2048 + 1 * j.val = j.val; omega
  | ⟨2, _⟩ => show win0_3.index (point b s) 2 * 1 + 1 * 0 = 0; omega

/-- The block of key features. -/
theorem block4 (r : Fin 256) (j : Fin 2048) :
    (iblk m c 4 (point b s) : Vec Ideal S1x256x2048 .f32) (ix3 0 r j) = argG m c (ix3 b r j) := by
  obtain ⟨-, -, -, -, ⟨i0, i1, i2⟩, -⟩ := index_facts (point b s)
  rw [point_div] at i0
  unfold iblk
  rw [View.read_apply]
  show V m c main_arg3 _ = _
  rw [V_main_arg3]
  refine congrArg (argG m c) (funext fun a => Fin.ext ?_)
  match a with
  | ⟨0, _⟩ => show win0_4.index (point b s) 0 * 1 + 1 * 0 = b.val; omega
  | ⟨1, _⟩ => show win0_4.index (point b s) 1 * 256 + 1 * r.val = r.val; omega
  | ⟨2, _⟩ => show win0_4.index (point b s) 2 * 2048 + 1 * j.val = j.val; omega

/-- The block of query features. -/
theorem block5 (r : Fin 256) (t : Fin 1024) :
    (iblk m c 5 (point b s) : Vec Ideal S1x256x1024 .f32) (ix3 0 r t) = argF m c (ix3 b r (query s t)) := by
  obtain ⟨-, -, -, -, -, ⟨i0, i1, i2⟩, -⟩ := index_facts (point b s)
  rw [point_div] at i0
  rw [point_mod] at i2
  unfold iblk
  rw [View.read_apply]
  show V m c main_arg2 _ = _
  rw [V_main_arg2]
  refine congrArg (argF m c) (funext fun a => Fin.ext ?_)
  match a with
  | ⟨0, _⟩ => show win0_5.index (point b s) 0 * 1 + 1 * 0 = b.val; omega
  | ⟨1, _⟩ => show win0_5.index (point b s) 1 * 256 + 1 * r.val = r.val; omega
  | ⟨2, _⟩ => show win0_5.index (point b s) 2 * 1024 + 1 * t.val = 1024 * s.val + t.val; omega

/-- The result array at a row and a query of this block is what the block's grid point computes there. -/
theorem array_block (r : Fin 512) (t : Fin 1024) :
    ((dats m 0 c).arrAt 6 cfg0.N : FVec Ideal S8x512x4096 .f32) (ix3 b r (query s t))
      = out0_6 (iblk m c 0 (point b s)) (iblk m c 1 (point b s)) (iblk m c 2 (point b s)) (iblk m c 3 (point b s))
          (iblk m c 4 (point b s)) (iblk m c 5 (point b s)) (ix3 0 r t) := by
  obtain ⟨-, -, -, -, -, -, ⟨i0, i1, i2⟩⟩ := index_facts (point b s)
  rw [point_div] at i0
  rw [point_mod] at i2
  have h := (Value.blocks6 m c (point b s) (flush_all _)).trans (Value.flushed6 m c (point b s))
  have h' := congrFun h (ix3 0 r t)
  rw [View.read_apply] at h'
  refine Eq.trans ?_ h'
  refine congrArg ((dats m 0 c).arrAt 6 cfg0.N) (funext fun a => Fin.ext ?_)
  match a with
  | ⟨0, _⟩ => show b.val = win0_6.index (point b s) 0 * 1 + 1 * 0; omega
  | ⟨1, _⟩ => show r.val = win0_6.index (point b s) 1 * 512 + 1 * r.val; omega
  | ⟨2, _⟩ => show 1024 * s.val + t.val = win0_6.index (point b s) 2 * 1024 + 1 * t.val; omega

/-- The distances of the block are the distances of the whole arrays. -/
theorem block_distance (t : Fin 1024) :
    column (k0_pay2 (iblk m c 0 (point b s)) (iblk m c 1 (point b s)) (iblk m c 2 (point b s)) (iblk m c 3 (point b s))) t
      = kdist (argQ m c) (argK m c) b (query s t) := by
  funext j
  unfold column kdist
  rw [distance_apply, block2, block3]
  simp only [block0, block1]

end Blocks

/-- A query's number is its tile and its column put together. -/
theorem query_split (n : Fin 4096) : n = query ⟨n.val / 1024, by omega⟩ ⟨n.val % 1024, by omega⟩ :=
  Fin.ext (by show n.val = 1024 * (n.val / 1024) + n.val % 1024; omega)

/-- The lower 256 rows of the result are the query features. -/
theorem array_lower (b : Fin 8) (r : Fin 256) (n : Fin 4096) :
    ((dats m 0 c).arrAt 6 cfg0.N : FVec Ideal S8x512x4096 .f32) (ix3 b ⟨256 + r.val, by omega⟩ n)
      = argF m c (ix3 b r n) := by
  rw [query_split n, array_block, out_lower, block5]

/-- The upper 256 rows of the result, where an order `σ` sorts the keys by their distance to query `n` with the third
    place strictly below the fourth: the features of the first three keys, weighted. -/
theorem array_upper (b : Fin 8) (r : Fin 256) (n : Fin 4096) (σ : Fin 2048 → Fin 2048) (hσ : Function.Injective σ)
    (hd : ∀ i j, i < j → kdist (argQ m c) (argK m c) b n (σ i) ≤ kdist (argQ m c) (argK m c) b n (σ j))
    (h34 : kdist (argQ m c) (argK m c) b n (σ 2) < kdist (argQ m c) (argK m c) b n (σ 3)) :
    ((dats m 0 c).arrAt 6 cfg0.N : FVec Ideal S8x512x4096 .f32) (ix3 b ⟨r.val, by omega⟩ n)
      = mix (kdist (argQ m c) (argK m c) b n) (fun j => argG m c (ix3 b r j)) σ := by
  rw [query_split n] at hd h34 ⊢
  rw [← block_distance] at hd h34 ⊢
  rw [array_block, out_upper _ _ _ _ _ _ r _ σ hσ hd h34]
  simp only [block4]

end Cert.ThreeNearest

end
-- ==== Proof.RefDistance.lean ====
/-
  The distances the reference ranks, entry by entry.
-/
module

public import proofs.«01_k».proof.Proof.Gen.ReferenceIdeal.Run
public import Idealize.ShloMosaic.Lib.Pointwise

@[expose] public section

noncomputable section

namespace Cert.ThreeNearest

open Idealize.ShloMosaic Idealize.ShloMosaic.TcCoe Cert.ReferenceIdeal Cert.ReferenceIdeal.Gen

/-- The reference's squared distance of query `n` to key `j` of batch `b`: the query's squared norm, less twice the
    inner product, plus the key's squared norm. -/
def rdist (q : FVec Ideal S8x3x4096 .f32) (k : FVec Ideal S8x3x2048 .f32) (b : Fin 8) (n : Fin 4096) (j : Fin 2048) : EReal :=
  (∑ d : Fin 3, q (ix3 b d n) * q (ix3 b d n)) - Ideal.ofBits .f32 0x40000000#32 * (∑ d : Fin 3, q (ix3 b d n) * k (ix3 b d j))
    + ∑ d : Fin 3, k (ix3 b d j) * k (ix3 b d j)

/-- The array of negated squared distances. -/
def nearness (q : FVec Ideal S8x3x4096 .f32) (k : FVec Ideal S8x3x2048 .f32) : FVec Ideal S8x4096x2048 .f32 :=
  fun i => -rdist q k (i 0) (i 1) (i 2)

/-- An entry of it. -/
theorem nearness_apply (q : FVec Ideal S8x3x4096 .f32) (k : FVec Ideal S8x3x2048 .f32) (b : Fin 8) (n : Fin 4096)
    (j : Fin 2048) : nearness q k (ix3 b n j) = -rdist q k b n j := rfl

/-- The reference's operations up to the ranking compute that array. -/
theorem nearness_eq (q : FVec Ideal S8x3x4096 .f32) (k : FVec Ideal S8x3x2048 .f32) :
    Host.negf (addf (subf (broadcastInDim S8x4096x2048 ![0, 1, 2] bcast_S8x4096x1_S8x4096x2048_0_1_2
        (broadcastInDim S8x4096x1 ![0, 1] bcast_S8x4096_S8x4096x1_0_1
          (Host.reduceAdd (mulf (transpose S8x4096x3 [0, 2, 1] q transposes_S8x3x4096_S8x4096x3_0_2_1)
            (transpose S8x4096x3 [0, 2, 1] q transposes_S8x3x4096_S8x4096x3_0_2_1))
            (constant S_ .f32 0x00000000#32) reducesTo_S8x4096x3_S8x4096_d2 h_S_)))
        (mulf (broadcastInDim S8x4096x2048 ![] bcast_S_S8x4096x2048 (constant S_ .f32 0x40000000#32))
          (Host.dotGeneral dot_S8x4096x3_S8x2048x3_S8x4096x2048_2_2_1_1_0_0 none
            (transpose S8x4096x3 [0, 2, 1] q transposes_S8x3x4096_S8x4096x3_0_2_1)
            (transpose S8x2048x3 [0, 2, 1] k transposes_S8x3x2048_S8x2048x3_0_2_1))))
        (broadcastInDim S8x4096x2048 ![0, 1, 2] bcast_S8x1x2048_S8x4096x2048_0_1_2
          (broadcastInDim S8x1x2048 ![0, 2] bcast_S8x2048_S8x1x2048_0_2
            (Host.reduceAdd (mulf (transpose S8x2048x3 [0, 2, 1] k transposes_S8x3x2048_S8x2048x3_0_2_1)
              (transpose S8x2048x3 [0, 2, 1] k transposes_S8x3x2048_S8x2048x3_0_2_1))
              (constant S_ .f32 0x00000000#32) reducesTo_S8x2048x3_S8x2048_d2 h_S_))))
      = nearness q k := by
  funext i
  obtain ⟨b, n, j, rfl⟩ : ∃ (b : Fin 8) (n : Fin 4096) (j : Fin 2048), i = ix3 b n j :=
    ⟨i 0, i 1, i 2, by funext a; fin_cases a <;> rfl⟩
  rw [nearness_apply]
  unfold rdist
  pointwise

end Cert.ThreeNearest
-- ==== Proof.Sorting.lean ====
module

public import Idealize.ShloMosaic.Lib.Pointwise
public import Idealize.ShloMosaic.Lib.SortFacts

/-! The greatest entries of a row along the last axis, at an index: the sort's order of the positions of that row,
that it repeats no position, and that the entries descend along it. -/

@[expose] public section

noncomputable section

namespace Cert.ThreeNearest

open Idealize Idealize.ShloMosaic

variable {A B N K : Nat}

/-- The position that comes `j`-th when row `(b, n)` of `x` is sorted, greatest entry first and equal entries in
    their old order. -/
def rank (x : FVec Ideal ⟨3, ![A, B, N]⟩ .f32) (b : Fin A) (n : Fin B) (j : Fin N) : Fin N :=
  sortedFrom (fun k k' => FloatOps.cmpfTotal (F := Ideal) (φ := .f32) .gt (x (ix3 b n k)) (x (ix3 b n k')) == 1#1) j

/-- The sort uses every position once. -/
theorem rank_injective (x : FVec Ideal ⟨3, ![A, B, N]⟩ .f32) (b : Fin A) (n : Fin B) :
    Function.Injective (rank x b n) :=
  sortedFrom_injective _

/-- Comparing by "greater" gives the true bit exactly when the second number is below the first. -/
theorem greater_iff (u v : EReal) : (FloatOps.cmpfTotal (F := Ideal) (φ := .f32) .gt u v == 1#1) = decide (v < u) := by
  change (BitVec.ofBool (decide (v < u)) == 1#1) = decide (v < u)
  by_cases h : v < u <;> simp [h]

/-- Along the sort the entries descend. -/
theorem rank_descends (x : FVec Ideal ⟨3, ![A, B, N]⟩ .f32) (b : Fin A) (n : Fin B) {i j : Fin N} (h : i < j) :
    x (ix3 b n (rank x b n j)) ≤ x (ix3 b n (rank x b n i)) := by
  have s := sortedFrom_noInversion
    (fun k k' => FloatOps.cmpfTotal (F := Ideal) (φ := .f32) .gt (x (ix3 b n k)) (x (ix3 b n k')) == 1#1)
    (fun k k' => FloatOps.cmpfTotal (F := Ideal) (φ := .f32) .gt (x (ix3 b n k)) (x (ix3 b n k')) == 1#1)
    (fun k k' e => by
      rw [greater_iff, decide_eq_true_iff] at e
      rw [greater_iff, decide_eq_false_iff_not]
      exact not_lt.2 e.le)
    (fun _ _ e => e)
    (fun k k' k'' e e' => by
      rw [greater_iff, decide_eq_false_iff_not, not_lt] at e e' ⊢
      exact e.trans e')
    i j h
  rw [greater_iff, decide_eq_false_iff_not, not_lt] at s
  exact s

/-- Moving an index along the last axis replaces its last coordinate. -/
theorem along_last (b : Fin A) (n : Fin B) (j k : Fin N) (h : 2 < 3) :
    Shape.Idx.along (s := ⟨3, ![A, B, N]⟩) (ix3 b n j) ⟨2, h⟩ k = ix3 b n k := by
  funext a
  fin_cases a <;> rfl

/-- The same, at the position the sort of the row gives. -/
theorem along_rank (x : FVec Ideal ⟨3, ![A, B, N]⟩ .f32) (b : Fin A) (n : Fin B) (j : Fin N) (h : 2 < 3) :
    Shape.Idx.along (s := ⟨3, ![A, B, N]⟩) (ix3 b n j) ⟨2, h⟩
      (sortedFrom (n := N) (fun k k' => FloatOps.cmpfTotal (F := Ideal) (φ := .f32) .gt
        (x (Shape.Idx.along (s := ⟨3, ![A, B, N]⟩) (ix3 b n j) ⟨2, h⟩ k))
        (x (Shape.Idx.along (s := ⟨3, ![A, B, N]⟩) (ix3 b n j) ⟨2, h⟩ k')) == 1#1) j)
      = ix3 b n (rank x b n j) := by
  rw [along_last]
  simp only [along_last]
  rfl

/-- Cutting the last axis to its first `K` positions keeps the coordinates. -/
theorem cut_last (b : Fin A) (n : Fin B) (j : Fin K) (hk : K ≤ N)
    (h : (⟨3, ![A, B, N]⟩ : Shape).Slices (fun _ => 0) ⟨3, ![A, B, K]⟩) {α : Type}
    (y : (⟨3, ![A, B, N]⟩ : Shape).Idx → α) :
    extractStridedSlice ⟨3, ![A, B, K]⟩ (fun _ => 0) y h (ix3 b n j) = y (ix3 b n (Fin.castLE hk j)) := by
  refine congrArg y (funext fun a => ?_)
  fin_cases a <;> exact Fin.ext (Nat.zero_add _)

/-- The `j`-th greatest entry of a row is the entry at the sort's `j`-th position. -/
theorem topK_values (x : FVec Ideal ⟨3, ![A, B, N]⟩ .f32) (b : Fin A) (n : Fin B) (j : Fin K) (hk : K ≤ N)
    (h : (⟨3, ![A, B, N]⟩ : Shape).Slices (fun _ => 0) ⟨3, ![A, B, K]⟩) :
    (Host.topK ⟨3, ![A, B, K]⟩ 2 (FloatOps.cmpfTotal (F := Ideal) (φ := .f32) .gt) x h).1 (ix3 b n j)
      = x (ix3 b n (rank x b n (Fin.castLE hk j))) := by
  unfold Host.topK
  dsimp only
  rw [cut_last b n j hk]
  simp only [Host.sort2]
  rw [dif_pos (show 2 < 3 by decide)]
  exact congrArg x (along_rank x b n _ _)

/-- The index given with it is that position. -/
theorem topK_indices (x : FVec Ideal ⟨3, ![A, B, N]⟩ .f32) (b : Fin A) (n : Fin B) (j : Fin K) (hk : K ≤ N)
    (h : (⟨3, ![A, B, N]⟩ : Shape).Slices (fun _ => 0) ⟨3, ![A, B, K]⟩) :
    (Host.topK ⟨3, ![A, B, K]⟩ 2 (FloatOps.cmpfTotal (F := Ideal) (φ := .f32) .gt) x h).2 (ix3 b n j)
      = BitVec.ofNat 32 (rank x b n (Fin.castLE hk j)).val := by
  unfold Host.topK
  dsimp only
  rw [cut_last b n j hk]
  simp only [Host.sort2]
  rw [dif_pos (show 2 < 3 by decide)]
  dsimp only
  rw [dif_pos (show 2 < 3 by decide)]
  exact congrArg (iotaInDim (⟨3, ![A, B, N]⟩ : Shape) 32 2) (along_rank x b n _ _)

end Cert.ThreeNearest
-- ==== Proof.RefValue.lean ====
/-
  What the reference returns, entry by entry: the three nearest keys of a query, the features gathered at them, the
  weights, and the two halves of the result.
-/
module

public import proofs.«01_k».proof.Proof.RefDistance
public import proofs.«01_k».proof.Proof.Sorting

@[expose] public section

noncomputable section

namespace Cert.ThreeNearest

open Idealize.ShloMosaic Idealize.ShloMosaic.TcCoe Cert.ReferenceIdeal Cert.ReferenceIdeal.Gen

/-- Gathering at an index below 2048 reads that row of the batch's table. -/
theorem gather_apply {α : Type} (x : S8x2048x256.Idx → α) (idx : IVec S8x4096x3x1 32) (b : Fin 8) (n : Fin 4096) (r : Fin 3)
    (c : Fin 256) (j : Fin 2048) (h : idx (ix4 b n r 0) = BitVec.ofNat 32 j.val) :
    Host.gather gather_S8x2048x256_S8x4096x3x1_S8x4096x3x256_3_1_0_0_1_3_11256 x idx (ix4 b n r c) = x (ix3 b j c) := by
  have hs : gather_S8x2048x256_S8x4096x3x1_S8x4096x3x256_3_1_0_0_1_3_11256.siIdx (ix4 b n r c) ⟨0, Nat.one_pos⟩
      = ix4 b n r 0 := by
    funext a
    fin_cases a <;> rfl
  have hj : (BitVec.ofNat 32 j.val).toInt.toNat = j.val := by
    have := j.isLt
    have e : (BitVec.ofNat 32 j.val).toNat = j.val := by rw [BitVec.toNat_ofNat]; omega
    rw [BitVec.toInt_eq_toNat_of_lt (by omega), e, Int.toNat_natCast]
  unfold Host.gather
  refine congrArg x (funext fun a => Fin.ext ?_)
  match a with
  | ⟨0, _⟩ =>
    show 0 + b.val + 0 = b.val
    omega
  | ⟨1, _⟩ =>
    show min (idx (gather_S8x2048x256_S8x4096x3x1_S8x4096x3x256_3_1_0_0_1_3_11256.siIdx (ix4 b n r c)
      ⟨0, Nat.one_pos⟩)).toInt.toNat (2048 - 1) + 0 + 0 = j.val
    rw [hs, h, hj]
    have := j.isLt
    omega
  | ⟨2, _⟩ =>
    show 0 + 0 + c.val = c.val
    omega

section
variable (x : FVec Ideal S8x4096x2048 .f32)

/-- The three greatest entries of each row. -/
def best : FVec Ideal S8x4096x3 .f32 :=
  (Host.topK S8x4096x3 2 (FloatOps.cmpfTotal .gt) x sliceFits_S8x4096x2048_S8x4096x3).1

/-- Their positions. -/
def bestAt : IVec S8x4096x3 32 :=
  (Host.topK S8x4096x3 2 (FloatOps.cmpfTotal .gt) x sliceFits_S8x4096x2048_S8x4096x3).2

/-- The inverse distances at the three. -/
def closeness : FVec Ideal S8x4096x3 .f32 :=
  Host.divf (broadcastInDim S8x4096x3 ![] bcast_S_S8x4096x3 (constant S_ .f32 0x3F800000#32))
    (maximumf (Host.negf (best x)) (broadcastInDim S8x4096x3 ![] bcast_S_S8x4096x3 (constant S_ .f32 0x2EDBE6FF#32)))

/-- The three weights. -/
def weights : FVec Ideal S8x4096x3 .f32 :=
  Host.divf (closeness x) (broadcastInDim S8x4096x3 ![0, 1, 2] bcast_S8x4096x1_S8x4096x3_0_1_2
    (broadcastInDim S8x4096x1 ![0, 1] bcast_S8x4096_S8x4096x1_0_1
      (Host.reduceAdd (closeness x) (constant S_ .f32 0x00000000#32) reducesTo_S8x4096x3_S8x4096_d2 h_S_)))

/-- The positions as the gather takes them: one below zero has the number of keys added. -/
def places : IVec S8x4096x3x1 32 :=
  broadcastInDim S8x4096x3x1 ![0, 1, 2] bcast_S8x4096x3_S8x4096x3x1_0_1_2
    (select (cmpi .slt (bestAt x) (broadcastInDim S8x4096x3 ![] bcast_S_S8x4096x3 (constantI S_ 32 0#32)))
      (addi (bestAt x) (broadcastInDim S8x4096x3 ![] bcast_S_S8x4096x3 (constantI S_ 32 2048#32))) (bestAt x))

/-- The interpolated features. -/
def blend (g : FVec Ideal S8x256x2048 .f32) : FVec Ideal S8x256x4096 .f32 :=
  transpose S8x256x4096 [0, 2, 1]
    (Host.reduceAdd
      (mulf (Host.gather gather_S8x2048x256_S8x4096x3x1_S8x4096x3x256_3_1_0_0_1_3_11256
          (transpose S8x2048x256 [0, 2, 1] g transposes_S8x256x2048_S8x2048x256_0_2_1) (places x))
        (broadcastInDim S8x4096x3x256 ![0, 1, 2, 3] bcast_S8x4096x3x1_S8x4096x3x256_0_1_2_3
          (broadcastInDim S8x4096x3x1 ![0, 1, 2] bcast_S8x4096x3_S8x4096x3x1_0_1_2 (weights x))))
      (constant S_ .f32 0x00000000#32) reducesTo_S8x4096x3x256_S8x4096x256_d2 h_S_)
    transposes_S8x4096x256_S8x256x4096_0_2_1

/-- The whole result: the interpolated features over the query's own. -/
def stacked (f : FVec Ideal S8x256x4096 .f32) (g : FVec Ideal S8x256x2048 .f32) : FVec Ideal S8x512x4096 .f32 :=
  concatenate S8x512x4096 1 [⟨S8x256x4096, blend x g⟩, ⟨S8x256x4096, f⟩]
    concatenates_S8x256x4096_S8x256x4096_S8x512x4096_d1

variable (b : Fin 8) (n : Fin 4096)

/-- The key that comes `r`-th. -/
def nth (r : Fin 3) : Fin 2048 := rank x b n (Fin.castLE (by decide) r)

/-- An entry of the three greatest. -/
theorem best_apply (r : Fin 3) : best x (ix3 b n r) = x (ix3 b n (nth x b n r)) :=
  topK_values x b n r _ _

/-- An entry of their positions. -/
theorem bestAt_apply (r : Fin 3) : bestAt x (ix3 b n r) = BitVec.ofNat 32 (nth x b n r).val :=
  topK_indices x b n r _ _

/-- The inverse of a distance, held away from zero. -/
theorem closeness_apply (r : Fin 3) : closeness x (ix3 b n r)
    = Ideal.div 1 (max (-x (ix3 b n (nth x b n r))) (Ideal.ofBits .f32 0x2EDBE6FF#32)) := by
  unfold closeness
  have h := best_apply x b n r
  pointwise [h]

/-- A weight: one inverse distance over the sum of the three. -/
theorem weights_apply (r : Fin 3) : weights x (ix3 b n r)
    = Ideal.div (closeness x (ix3 b n r)) (∑ s : Fin 3, closeness x (ix3 b n s)) := by
  unfold weights
  pointwise

/-- The place gathered is the key's position. -/
theorem places_apply (r : Fin 3) : places x (ix4 b n r 0) = BitVec.ofNat 32 (nth x b n r).val := by
  unfold places
  have h := bestAt_apply x b n r
  have e : IntOp.cmpi .slt (BitVec.ofNat 32 (nth x b n r).val) 0#32 = 0#1 := by
    have l := (nth x b n r).isLt
    have t : (BitVec.ofNat 32 (nth x b n r).val).toNat = (nth x b n r).val := by rw [BitVec.toNat_ofNat]; omega
    have u : BitVec.slt (BitVec.ofNat 32 (nth x b n r).val) 0#32 = false := by
      rw [BitVec.slt_eq_decide, BitVec.toInt_eq_toNat_of_lt (by omega), decide_eq_false_iff_not]
      exact not_lt.2 (Int.natCast_nonneg _)
    exact congrArg BitVec.ofBool u
  pointwise [h]
  rw [e]
  rfl

/-- An interpolated feature: the weighted sum over the three keys. -/
theorem blend_apply (g : FVec Ideal S8x256x2048 .f32) (c : Fin 256) : blend x g (ix3 b c n)
    = ∑ r : Fin 3, g (ix3 b c (nth x b n r)) * weights x (ix3 b n r) := by
  unfold blend
  have h := fun r => gather_apply (transpose S8x2048x256 [0, 2, 1] g transposes_S8x256x2048_S8x2048x256_0_2_1)
    (places x) b n r c (nth x b n r) (places_apply x b n r)
  pointwise [h]

/-- The upper half of the result. -/
theorem stacked_upper (f : FVec Ideal S8x256x4096 .f32) (g : FVec Ideal S8x256x2048 .f32) (c : Fin 256) :
    stacked x f g (ix3 b ⟨c.val, by omega⟩ n) = blend x g (ix3 b c n) := by
  unfold stacked
  pointwise

/-- The lower half of the result. -/
theorem stacked_lower (f : FVec Ideal S8x256x4096 .f32) (g : FVec Ideal S8x256x2048 .f32) (c : Fin 256) :
    stacked x f g (ix3 b ⟨256 + c.val, by omega⟩ n) = f (ix3 b c n) := by
  unfold stacked
  pointwise

end

/-- The reference's result on its arguments. -/
theorem result_eq (m : (ℓ : Loc nD τ sig) → Buf (Elt Ideal) ℓ) (c : Dev nD) :
    (Value.res_main_v38 m c : FVec Ideal S8x512x4096 .f32)
      = stacked (nearness (m (c.tc.loc main_arg0)) (m (c.tc.loc main_arg1))) (m (c.tc.loc main_arg2))
          (m (c.tc.loc main_arg3)) := by
  rw [← nearness_eq]
  rfl

end Cert.ThreeNearest
-- ==== Proof.Precond.lean ====
/-
  What the precondition gives: every coordinate is a real number, and no query has its third and fourth nearest keys at
  one distance.
-/
module

public import proofs.«01_k».proof.Proof.RefValue
public import proofs.«01_k».proof.Proof.Gen.Pre_three_nearest
public import Idealize.ShloMosaic.Lib.ReduceAll

@[expose] public section

noncomputable section

namespace Cert.ThreeNearest

open Idealize.ShloMosaic Cert.Pre_three_nearest Cert.Pre_three_nearest.Gen

/-- The precondition, its ranked array named. -/
def decision (q : FVec Ideal S8x3x4096 .f32) (k : FVec Ideal S8x3x2048 .f32) (x : FVec Ideal S8x4096x2048 .f32) : IVec S_ 1 :=
  fn_part1 (F := Ideal) q k
    (shapeCast S8x4096 (extractStridedSlice S8x4096x1 ![0, 0, 2]
      (Host.topK S8x4096x4 2 (FloatOps.cmpfTotal .gt) x sliceFits_S8x4096x2048_S8x4096x4).1
      slices_S8x4096x4_S8x4096x1_0_0_2) shapeCasts_S8x4096x1_S8x4096)
    (extractStridedSlice S8x4096x1 ![0, 0, 3]
      (Host.topK S8x4096x4 2 (FloatOps.cmpfTotal .gt) x sliceFits_S8x4096x2048_S8x4096x4).1
      slices_S8x4096x4_S8x4096x1_0_0_3)

/-- The array it ranks is the reference's. -/
theorem decision_eq (q : FVec Ideal S8x3x4096 .f32) (k : FVec Ideal S8x3x2048 .f32) (f : FVec Ideal S8x256x4096 .f32)
    (g : FVec Ideal S8x256x2048 .f32) : fn (F := Ideal) q k f g = decision q k (nearness q k) := by
  rw [← nearness_eq]
  rfl

/-- A decided statement whose bit is one holds. -/
theorem of_bit {p : Prop} [Decidable p] (h : BitVec.ofBool (decide p) = 1#1) : p := by
  by_contra n
  rw [decide_eq_false n] at h
  exact absurd h (by decide)

/-- Below plus infinity in absolute value is neither infinity. -/
theorem finite_of_abs {u : EReal} (h : FloatOps.cmpf (F := Ideal) (φ := .f32) .olt (FloatOps.absf (F := Ideal) (φ := .f32) u)
    (Ideal.ofBits .f32 0x7F800000#32) = 1#1) : u ≠ ⊤ ∧ u ≠ ⊥ := by
  have e : Ideal.ofBits .f32 0x7F800000#32 = ⊤ := by simp [Ideal.ofBits, Ideal.ieee]
  rw [e] at h
  have l : max u (-u) < ⊤ := of_bit h
  obtain ⟨l1, l2⟩ := max_lt_iff.1 l
  exact ⟨l1.ne, fun b => by rw [b, EReal.neg_bot] at l2; exact l2.ne rfl⟩

variable {q : FVec Ideal S8x3x4096 .f32} {k : FVec Ideal S8x3x2048 .f32} {x : FVec Ideal S8x4096x2048 .f32}

/-- The three parts of the precondition. -/
theorem parts (h : decision q k x = fun _ => 1#1) :
    (∀ (b : Fin 8) (n : Fin 4096), x (ix3 b n (rank x b n 3)) < x (ix3 b n (rank x b n 2)))
    ∧ (∀ i, q i ≠ ⊤ ∧ q i ≠ ⊥) ∧ ∀ i, k i ≠ ⊤ ∧ k i ≠ ⊥ := by
  have e := congrFun h (fun a => a.elim0)
  obtain ⟨e1, e2⟩ := IntOp.andi_eq_one.1 e
  obtain ⟨e2, e3⟩ := IntOp.andi_eq_one.1 e2
  haveI : Subsingleton S_.Idx := ⟨fun a b => funext fun i => i.elim0⟩
  refine ⟨fun b n => ?_, fun i => ?_, fun i => ?_⟩
  · have t := Host.reduce_andi_all _ _ _ _ _ e1 (ix2 b n)
    have t2 := topK_values x b n (2 : Fin 4) (by decide) sliceFits_S8x4096x2048_S8x4096x4
    have t3 := topK_values x b n (3 : Fin 4) (by decide) sliceFits_S8x4096x2048_S8x4096x4
    revert t
    pointwise [t2, t3]
    exact of_bit
  · have t := Host.reduce_andi_all _ _ _ _ _ e2 i
    exact finite_of_abs t
  · have t := Host.reduce_andi_all _ _ _ _ _ e3 i
    exact finite_of_abs t

end Cert.ThreeNearest
-- ==== Proof.Equation.lean ====
/-
  The two results are one array: on real coordinates the kernel's rearranged distance is the reference's, and a product
  with the reciprocal of the sum of the weights is the quotient by that sum.
-/
module

public import proofs.«01_k».proof.Proof.KernelArray
public import proofs.«01_k».proof.Proof.Precond
public import Idealize.ShloMosaic.Lib.IdealHost

@[expose] public section

noncomputable section

namespace Cert.ThreeNearest

open Idealize.ShloMosaic Cert.KernelIdeal Cert.KernelIdeal.Gen

/-- The kernel's factor of the inner product is minus two. -/
theorem minus_two : Ideal.ofBits .f32 0xC0000000#32 = ((-2 : ℝ) : EReal) := by
  simp [Ideal.ofBits, Ideal.ieee, -EReal.coe_mul, -EReal.coe_neg]; norm_num

/-- The reference's is two. -/
theorem two : Ideal.ofBits .f32 0x40000000#32 = ((2 : ℝ) : EReal) := by
  simp [Ideal.ofBits, Ideal.ieee, -EReal.coe_mul]; norm_num

/-- The bound a distance is held above is a positive real number. -/
theorem bound_pos : ∃ e : ℝ, 0 < e ∧ Ideal.ofBits .f32 0x2EDBE6FF#32 = (e : EReal) := by
  refine ⟨_, ?_, by simp [Ideal.ofBits, Ideal.ieee, -EReal.coe_mul]; rfl⟩
  positivity

variable {q : FVec Ideal S8x3x4096 .f32} {k : FVec Ideal S8x3x2048 .f32}

/-- On real coordinates the kernel's distance is the reference's, and a real number. -/
theorem distances (hq : ∀ i, q i ≠ ⊤ ∧ q i ≠ ⊥) (hk : ∀ i, k i ≠ ⊤ ∧ k i ≠ ⊥) (b : Fin 8) (n : Fin 4096) (j : Fin 2048) :
    kdist q k b n j = rdist q k b n j ∧ ∃ r : ℝ, kdist q k b n j = (r : EReal) := by
  obtain ⟨u, lq⟩ : ∃ u : Fin 3 → ℝ, ∀ d, q (ix3 b d n) = (u d : EReal) :=
    ⟨fun d => (q (ix3 b d n)).toReal, fun d => (EReal.coe_toReal (hq _).1 (hq _).2).symm⟩
  obtain ⟨v, lk⟩ : ∃ v : Fin 3 → ℝ, ∀ d, k (ix3 b d j) = (v d : EReal) :=
    ⟨fun d => (k (ix3 b d j)).toReal, fun d => (EReal.coe_toReal (hk _).1 (hk _).2).symm⟩
  obtain ⟨s, hs, ms⟩ : ∃ s : ℝ, s = -2 ∧ Ideal.ofBits .f32 0xC0000000#32 = (s : EReal) := ⟨-2, rfl, minus_two⟩
  unfold kdist rdist
  simp only [lq, lk, ms, two, Fin.sum_univ_three]
  constructor
  · norm_cast
    rw [hs]
    ring
  · exact ⟨u 0 * u 0 + u 1 * u 1 + u 2 * u 2 + (s * v 0 * u 0 + s * v 1 * u 1 + s * v 2 * u 2)
      + (v 0 * v 0 + v 1 * v 1 + v 2 * v 2), by norm_cast⟩

/-- The inverse of a real distance is positive. -/
theorem inv_positive {y : EReal} (h : ∃ r : ℝ, y = (r : EReal)) : 0 < inv y := by
  obtain ⟨r, rfl⟩ := h
  obtain ⟨e, he, h⟩ := bound_pos
  have m : max (r : EReal) (e : EReal) = ((max r e : ℝ) : EReal) := EReal.coe_strictMono.monotone.map_max.symm
  have p : 0 < max r e := lt_max_of_lt_right he
  have z : ((max r e : ℝ) : EReal) ≠ 0 := by exact_mod_cast p.ne'
  unfold inv Ideal.div
  rw [h, m, if_neg z, one_mul, ← EReal.coe_inv]
  exact_mod_cast _root_.inv_pos.2 p

/-- A query's four nearest keys, and the rest, in the order the reference sorts them: the distances ascend, with the third
    strictly below the fourth, so the reference's weighted sum is the kernel's. -/
theorem blend_eq (hq : ∀ i, q i ≠ ⊤ ∧ q i ≠ ⊥) (hk : ∀ i, k i ≠ ⊤ ∧ k i ≠ ⊥) (g : FVec Ideal S8x256x2048 .f32) (b : Fin 8)
    (r : Fin 256) (n : Fin 4096) :
    blend (nearness q k) g (ix3 b r n)
      = mix (kdist q k b n) (fun j => g (ix3 b r j)) (rank (nearness q k) b n) := by
  have w : ∀ s : Fin 3, closeness (nearness q k) (ix3 b n s)
      = inv (kdist q k b n (nth (nearness q k) b n s)) := by
    intro s
    rw [closeness_apply, nearness_apply, neg_neg, (distances hq hk b n _).1]
    rfl
  have p : ∀ j, 0 < inv (kdist q k b n j) := fun j => inv_positive (distances hq hk b n j).2
  have z : ∀ j j' j'', inv (kdist q k b n j) + inv (kdist q k b n j') + inv (kdist q k b n j'') ≠ 0 := fun j j' j'' =>
    (((p j).trans_le (le_add_of_nonneg_right (p j').le)).trans_le (le_add_of_nonneg_right (p j'').le)).ne'
  rw [blend_apply]
  simp only [weights_apply, w, Fin.sum_univ_three]
  unfold mix
  simp only [Idealize.ShloMosaic.Ideal.mul_one_div (z _ _ _)]
  rfl

/-- The distances ascend along the order the reference sorts the keys in. -/
theorem ascending (hq : ∀ i, q i ≠ ⊤ ∧ q i ≠ ⊥) (hk : ∀ i, k i ≠ ⊤ ∧ k i ≠ ⊥) (b : Fin 8) (n : Fin 4096) (i j : Fin 2048)
    (h : i < j) :
    kdist q k b n (rank (nearness q k) b n i) ≤ kdist q k b n (rank (nearness q k) b n j) := by
  have l := rank_descends (nearness q k) b n h
  rw [nearness_apply, nearness_apply, EReal.neg_le_neg_iff] at l
  rw [(distances hq hk b n _).1, (distances hq hk b n _).1]
  exact l

/-- Every entry of the result lies in its upper or its lower half. -/
theorem halves (i : S8x512x4096.Idx) : ∃ (b : Fin 8) (n : Fin 4096) (r : Fin 256),
    i = ix3 b ⟨r.val, by omega⟩ n ∨ i = ix3 b ⟨256 + r.val, by omega⟩ n := by
  have e : i = ix3 (i 0) (i 1) (i 2) := by funext a; fin_cases a <;> rfl
  have l : (i 1).val < 512 := (i 1).isLt
  by_cases h : (i 1).val < 256
  · exact ⟨i 0, i 2, ⟨(i 1).val, h⟩, Or.inl e⟩
  · refine ⟨i 0, i 2, ⟨(i 1).val - 256, by omega⟩, Or.inr (e.trans ?_)⟩
    exact congrArg (fun t => ix3 (i 0) t (i 2)) (Fin.ext (by show (i 1).val = 256 + ((i 1).val - 256); omega))

/-- Where the precondition holds of the kernel's arguments, the array the kernel leaves is the one the reference's
    operations give on the same arguments. -/
theorem results_equal (m : (ℓ : Loc nD τ sig) → Buf (Elt Ideal) ℓ) (c : Dev nD)
    (h : Cert.Pre_three_nearest.fn (F := Ideal) (argQ m c) (argK m c) (argF m c) (argG m c) = fun _ => 1#1) :
    ((dats m 0 c).arrAt 6 cfg0.N : FVec Ideal S8x512x4096 .f32)
      = stacked (nearness (argQ m c) (argK m c)) (argF m c) (argG m c) := by
  rw [decision_eq] at h
  obtain ⟨h34, hq, hk⟩ := parts h
  funext i
  obtain ⟨b, n, r, rfl | rfl⟩ := halves i
  · have l := h34 b n
    rw [nearness_apply, nearness_apply, EReal.neg_lt_neg_iff, ← (distances hq hk b n _).1,
      ← (distances hq hk b n _).1] at l
    rw [array_upper m c b r n (rank (nearness (argQ m c) (argK m c)) b n) (rank_injective _ b n)
      (ascending hq hk b n) l, stacked_upper, blend_eq hq hk]
  · rw [array_lower, stacked_lower]

end Cert.ThreeNearest
-- ==== Proof.lean ====
/-
  The claims about the three-nearest-neighbour interpolation kernel, assembled: each program runs to its end, leaves its
  arguments as they were and every counter at zero, and on arguments that meet the precondition the kernel's result is
  the reference's, entry by entry over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_three_nearest
public import proofs.«01_k».proof.Proof.Gen.KernelIdeal.Value
public import proofs.«01_k».proof.Proof.Equation
public import Idealize.ShloMosaic.Lib.Quiescent
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The reference runs to its end with its arguments unchanged; it has no counter. -/
theorem reference_frame : Cert.quiescent_ReferenceIdeal := fun m ρ _ =>
  (θ_run Cert.ReferenceIdeal.defs _ _).mono
    (fun r h => ⟨fun c => (h c).2, sem_eq_zero_of_no_sems rfl r.2⟩)
    (Cert.ReferenceIdeal.Value.run (F := Ideal) m ρ)

/-- The kernel and the reference, on equal arguments that meet the precondition, end with one result. -/
theorem results : Cert.algebraic_KernelIdeal_ReferenceIdeal_pre_three_nearest := fun m g m' g' hp ha =>
  ⟨fun c => (Cert.KernelIdeal.Gen.dats m 0 c).arrAt 6 Cert.KernelIdeal.cfg0.N,
    Cert.KernelIdeal.Value.run_blocks m g,
    (θ_run Cert.ReferenceIdeal.defs _ _).mono
      (fun r h c => ⟨(h c).1.trans (by
        obtain ⟨e0, e1, e2, e3⟩ := ha c
        refine (Cert.ThreeNearest.result_eq m' c).trans ?_
        rw [e0, e1, e2, e3]
        exact (Cert.ThreeNearest.results_equal m c (hp c)).symm), (h c).2⟩)
      (Cert.ReferenceIdeal.Value.run (F := Ideal) m' g')⟩

/-- Every claim. -/
theorem claim : Cert.Claim :=
  ⟨Cert.Kernel.Gen.facts, Cert.KernelIdeal.Gen.facts, Cert.ReferenceIdeal.Gen.facts, Cert.Pre_three_nearest.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    results⟩

end Cert.Proof

end
